-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_v59) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1024x2560 : Shape := ⟨3, ![24, 1024, 2560]⟩
abbrev S24x1024x6912 : Shape := ⟨3, ![24, 1024, 6912]⟩
abbrev S1280x6912 : Shape := ⟨2, ![1280, 6912]⟩
abbrev S20x6912 : Shape := ⟨2, ![20, 6912]⟩
abbrev S2560x16 : Shape := ⟨2, ![2560, 16]⟩
abbrev S16x6912 : Shape := ⟨2, ![16, 6912]⟩
abbrev S24576x6912 : Shape := ⟨2, ![24576, 6912]⟩
abbrev S24576x2560 : Shape := ⟨2, ![24576, 2560]⟩
abbrev S16x2560 : Shape := ⟨2, ![16, 2560]⟩
abbrev S24x16x1024 : Shape := ⟨3, ![24, 16, 1024]⟩
abbrev S256x6912 : Shape := ⟨2, ![256, 6912]⟩
abbrev S256x2560 : Shape := ⟨2, ![256, 2560]⟩
abbrev S1x16x256 : Shape := ⟨3, ![1, 16, 256]⟩
abbrev S2560x6912 : Shape := ⟨2, ![2560, 6912]⟩
abbrev S64x768 : Shape := ⟨2, ![64, 768]⟩
abbrev S64x1x768 : Shape := ⟨3, ![64, 1, 768]⟩
abbrev S64x2x768 : Shape := ⟨3, ![64, 2, 768]⟩
abbrev S128x768 : Shape := ⟨2, ![128, 768]⟩
abbrev S1x768 : Shape := ⟨2, ![1, 768]⟩
abbrev S16x256 : Shape := ⟨2, ![16, 256]⟩
abbrev S256x256 : Shape := ⟨2, ![256, 256]⟩
abbrev S24x1024x16 : Shape := ⟨3, ![24, 1024, 16]⟩

abbrev nBuf : Space → Nat
  | .hbm => 18
  | .vmem => 17
  | .smem => 0
  | _ => 0

abbrev bufTy : (tb : Table) → Fin (tcTables nBuf tb) → BufTy
  | .hbm, ⟨0, _⟩ => ⟨S24x1024x2560, .bf16⟩
  | .hbm, ⟨1, _⟩ => ⟨S24x1024x6912, .bf16⟩
  | .hbm, ⟨2, _⟩ => ⟨S1280x6912, .i8⟩
  | .hbm, ⟨3, _⟩ => ⟨S20x6912, .bf16⟩
  | .hbm, ⟨4, _⟩ => ⟨S2560x16, .bf16⟩
  | .hbm, ⟨5, _⟩ => ⟨S16x6912, .bf16⟩
  | .hbm, ⟨6, _⟩ => ⟨S24576x6912, .bf16⟩
  | .hbm, ⟨7, _⟩ => ⟨S24576x2560, .bf16⟩
  | .hbm, ⟨8, _⟩ => ⟨S16x2560, .bf16⟩
  | .hbm, ⟨9, _⟩ => ⟨S24576x2560, .bf16⟩
  | .hbm, ⟨10, _⟩ => ⟨S16x2560, .f32⟩
  | .hbm, ⟨11, _⟩ => ⟨S16x6912, .f32⟩
  | .hbm, ⟨12, _⟩ => ⟨S24x16x1024, .bf16⟩
  | .hbm, ⟨13, _⟩ => ⟨S24x16x1024, .bf16⟩
  | .hbm, ⟨14, _⟩ => ⟨S24x1024x2560, .bf16⟩
  | .hbm, ⟨15, _⟩ => ⟨S2560x16, .f32⟩
  | .hbm, ⟨16, _⟩ => ⟨S24x1024x16, .bf16⟩
  | .hbm, ⟨17, _⟩ => ⟨S24x1024x16, .bf16⟩
  | .local _ .vmem, ⟨0, _⟩ => ⟨S256x6912, .bf16⟩
  | .local _ .vmem, ⟨1, _⟩ => ⟨S256x6912, .bf16⟩
  | .local _ .vmem, ⟨2, _⟩ => ⟨S256x2560, .bf16⟩
  | .local _ .vmem, ⟨3, _⟩ => ⟨S256x2560, .bf16⟩
  | .local _ .vmem, ⟨4, _⟩ => ⟨S1280x6912, .i8⟩
  | .local _ .vmem, ⟨5, _⟩ => ⟨S20x6912, .bf16⟩
  | .local _ .vmem, ⟨6, _⟩ => ⟨S16x2560, .bf16⟩
  | .local _ .vmem, ⟨7, _⟩ => ⟨S16x6912, .bf16⟩
  | .local _ .vmem, ⟨8, _⟩ => ⟨S256x2560, .bf16⟩
  | .local _ .vmem, ⟨9, _⟩ => ⟨S256x2560, .bf16⟩
  | .local _ .vmem, ⟨10, _⟩ => ⟨S16x2560, .f32⟩
  | .local _ .vmem, ⟨11, _⟩ => ⟨S16x6912, .f32⟩
  | .local _ .vmem, ⟨12, _⟩ => ⟨S1x16x256, .bf16⟩
  | .local _ .vmem, ⟨13, _⟩ => ⟨S1x16x256, .bf16⟩
  | .local _ .vmem, ⟨14, _⟩ => ⟨S1x16x256, .bf16⟩
  | .local _ .vmem, ⟨15, _⟩ => ⟨S1x16x256, .bf16⟩
  | .local _ .vmem, ⟨16, _⟩ => ⟨S2560x6912, .bf16⟩
  | _, _ => ⟨S24x1024x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![96], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_108 : BitVec 32 := 0#32
  let c9_i32 : BitVec 32 := 9#32
  let v134 : BitVec 32 := Scalar.addi c0_i32_108 c9_i32
  let c1_i32 : BitVec 32 := 1#32
  ⟨c0_i32_108, v134, c1_i32⟩
def k0_mult1 (k0_t1 : Fin k0_t1_loop.trips) : BitVec 32 :=
  let c0_i32_108 : BitVec 32 := 0#32
  let c1_i32 : BitVec 32 := 1#32
  let arg13 : BitVec 32 := Scf.iv c0_i32_108 c1_i32 k0_t1
  let c768_i32 : BitVec 32 := 768#32
  let v158 : BitVec 32 := Scalar.muli arg13 c768_i32
  v158
def k0_off1 (k0_t1 : Fin k0_t1_loop.trips) : Fin 2 → Nat :=
  let c0_192 : Index := 0#32
  let c0_i32_108 : BitVec 32 := 0#32
  let c1_i32 : BitVec 32 := 1#32
  let arg13 : BitVec 32 := Scf.iv c0_i32_108 c1_i32 k0_t1
  let c768_i32 : BitVec 32 := 768#32
  let v158 : BitVec 32 := Scalar.muli arg13 c768_i32
  let v159 : BitVec 32 := v158
  let v160 : Index := Scalar.indexCast v159
  ![0, v160.toNat]
def k0_off2 (k0_t1 : Fin k0_t1_loop.trips) : Fin 2 → Nat :=
  let c0_195 : Index := 0#32
  let c0_i32_108 : BitVec 32 := 0#32
  let c1_i32 : BitVec 32 := 1#32
  let arg13 : BitVec 32 := Scf.iv c0_i32_108 c1_i32 k0_t1
  let c768_i32 : BitVec 32 := 768#32
  let v158 : BitVec 32 := Scalar.muli arg13 c768_i32
  let v159 : BitVec 32 := v158
  let v176 : Index := Scalar.indexCast v159
  ![0, v176.toNat]
def k0_off3 (k0_t1 : Fin k0_t1_loop.trips) : Fin 2 → Nat :=
  let c0_196 : Index := 0#32
  let c0_i32_108 : BitVec 32 := 0#32
  let c1_i32 : BitVec 32 := 1#32
  let arg13 : BitVec 32 := Scf.iv c0_i32_108 c1_i32 k0_t1
  let c768_i32 : BitVec 32 := 768#32
  let v158 : BitVec 32 := Scalar.muli arg13 c768_i32
  let v159 : BitVec 32 := v158
  let v180 : Index := Scalar.indexCast v159
  ![0, v180.toNat]
@[reducible] def k0_t2_loop : Scf.Loop 32 :=
  let c0_i32_110 : BitVec 32 := 0#32
  let c9_i32_111 : BitVec 32 := 9#32
  let v135 : BitVec 32 := Scalar.addi c0_i32_110 c9_i32_111
  let c1_i32_112 : BitVec 32 := 1#32
  ⟨c0_i32_110, v135, c1_i32_112⟩
def k0_mult2 (k0_t2 : Fin k0_t2_loop.trips) : BitVec 32 :=
  let c0_i32_110 : BitVec 32 := 0#32
  let c1_i32_112 : BitVec 32 := 1#32
  let arg13 : BitVec 32 := Scf.iv c0_i32_110 c1_i32_112 k0_t2
  let c768_i32 : BitVec 32 := 768#32
  let v158 : BitVec 32 := Scalar.muli arg13 c768_i32
  v158
def k0_off4 (k0_t2 : Fin k0_t2_loop.trips) : Fin 2 → Nat :=
  let c64 : Index := 64#32
  let c0_i32_110 : BitVec 32 := 0#32
  let c1_i32_112 : BitVec 32 := 1#32
  let arg13 : BitVec 32 := Scf.iv c0_i32_110 c1_i32_112 k0_t2
  let c768_i32 : BitVec 32 := 768#32
  let v158 : BitVec 32 := Scalar.muli arg13 c768_i32
  let v159 : BitVec 32 := v158
  let v160 : Index := Scalar.indexCast v159
  ![64, v160.toNat]
def k0_off5 (k0_t2 : Fin k0_t2_loop.trips) : Fin 2 → Nat :=
  let c1 : Index := 1#32
  let c0_i32_110 : BitVec 32 := 0#32
  let c1_i32_112 : BitVec 32 := 1#32
  let arg13 : BitVec 32 := Scf.iv c0_i32_110 c1_i32_112 k0_t2
  let c768_i32 : BitVec 32 := 768#32
  let v158 : BitVec 32 := Scalar.muli arg13 c768_i32
  let v159 : BitVec 32 := v158
  let v176 : Index := Scalar.indexCast v159
  ![1, v176.toNat]
def k0_off6 (k0_t2 : Fin k0_t2_loop.trips) : Fin 2 → Nat :=
  let c128 : Index := 128#32
  let c0_i32_110 : BitVec 32 := 0#32
  let c1_i32_112 : BitVec 32 := 1#32
  let arg13 : BitVec 32 := Scf.iv c0_i32_110 c1_i32_112 k0_t2
  let c768_i32 : BitVec 32 := 768#32
  let v158 : BitVec 32 := Scalar.muli arg13 c768_i32
  let v159 : BitVec 32 := v158
  let v180 : Index := Scalar.indexCast v159
  ![128, v180.toNat]
@[reducible] def k0_t3_loop : Scf.Loop 32 :=
  let c0_i32_114 : BitVec 32 := 0#32
  let c9_i32_115 : BitVec 32 := 9#32
  let v136 : BitVec 32 := Scalar.addi c0_i32_114 c9_i32_115
  let c1_i32_116 : BitVec 32 := 1#32
  ⟨c0_i32_114, v136, c1_i32_116⟩
def k0_mult3 (k0_t3 : Fin k0_t3_loop.trips) : BitVec 32 :=
  let c0_i32_114 : BitVec 32 := 0#32
  let c1_i32_116 : BitVec 32 := 1#32
  let arg13 : BitVec 32 := Scf.iv c0_i32_114 c1_i32_116 k0_t3
  let c768_i32 : BitVec 32 := 768#32
  let v158 : BitVec 32 := Scalar.muli arg13 c768_i32
  v158
def k0_off7 (k0_t3 : Fin k0_t3_loop.trips) : Fin 2 → Nat :=
  let c128 : Index := 128#32
  let c0_i32_114 : BitVec 32 := 0#32
  let c1_i32_116 : BitVec 32 := 1#32
  let arg13 : BitVec 32 := Scf.iv c0_i32_114 c1_i32_116 k0_t3
  let c768_i32 : BitVec 32 := 768#32
  let v158 : BitVec 32 := Scalar.muli arg13 c768_i32
  let v159 : BitVec 32 := v158
  let v160 : Index := Scalar.indexCast v159
  ![128, v160.toNat]
def k0_off8 (k0_t3 : Fin k0_t3_loop.trips) : Fin 2 → Nat :=
  let c2 : Index := 2#32
  let c0_i32_114 : BitVec 32 := 0#32
  let c1_i32_116 : BitVec 32 := 1#32
  let arg13 : BitVec 32 := Scf.iv c0_i32_114 c1_i32_116 k0_t3
  let c768_i32 : BitVec 32 := 768#32
  let v158 : BitVec 32 := Scalar.muli arg13 c768_i32
  let v159 : BitVec 32 := v158
  let v176 : Index := Scalar.indexCast v159
  ![2, v176.toNat]
def k0_off9 (k0_t3 : Fin k0_t3_loop.trips) : Fin 2 → Nat :=
  let c256_194 : Index := 256#32
  let c0_i32_114 : BitVec 32 := 0#32
  let c1_i32_116 : BitVec 32 := 1#32
  let arg13 : BitVec 32 := Scf.iv c0_i32_114 c1_i32_116 k0_t3
  let c768_i32 : BitVec 32 := 768#32
  let v158 : BitVec 32 := Scalar.muli arg13 c768_i32
  let v159 : BitVec 32 := v158
  let v180 : Index := Scalar.indexCast v159
  ![256, v180.toNat]
@[reducible] def k0_t4_loop : Scf.Loop 32 :=
  let c0_i32_118 : BitVec 32 := 0#32
  let c9_i32_119 : BitVec 32 := 9#32
  let v137 : BitVec 32 := Scalar.addi c0_i32_118 c9_i32_119
  let c1_i32_120 : BitVec 32 := 1#32
  ⟨c0_i32_118, v137, c1_i32_120⟩
def k0_mult4 (k0_t4 : Fin k0_t4_loop.trips) : BitVec 32 :=
  let c0_i32_118 : BitVec 32 := 0#32
  let c1_i32_120 : BitVec 32 := 1#32
  let arg13 : BitVec 32 := Scf.iv c0_i32_118 c1_i32_120 k0_t4
  let c768_i32 : BitVec 32 := 768#32
  let v158 : BitVec 32 := Scalar.muli arg13 c768_i32
  v158
def k0_off10 (k0_t4 : Fin k0_t4_loop.trips) : Fin 2 → Nat :=
  let c192 : Index := 192#32
  let c0_i32_118 : BitVec 32 := 0#32
  let c1_i32_120 : BitVec 32 := 1#32
  let arg13 : BitVec 32 := Scf.iv c0_i32_118 c1_i32_120 k0_t4
  let c768_i32 : BitVec 32 := 768#32
  let v158 : BitVec 32 := Scalar.muli arg13 c768_i32
  let v159 : BitVec 32 := v158
  let v160 : Index := Scalar.indexCast v159
  ![192, v160.toNat]
def k0_off11 (k0_t4 : Fin k0_t4_loop.trips) : Fin 2 → Nat :=
  let c3 : Index := 3#32
  let c0_i32_118 : BitVec 32 := 0#32
  let c1_i32_120 : BitVec 32 := 1#32
  let arg13 : BitVec 32 := Scf.iv c0_i32_118 c1_i32_120 k0_t4
  let c768_i32 : BitVec 32 := 768#32
  let v158 : BitVec 32 := Scalar.muli arg13 c768_i32
  let v159 : BitVec 32 := v158
  let v176 : Index := Scalar.indexCast v159
  ![3, v176.toNat]
def k0_off12 (k0_t4 : Fin k0_t4_loop.trips) : Fin 2 → Nat :=
  let c384 : Index := 384#32
  let c0_i32_118 : BitVec 32 := 0#32
  let c1_i32_120 : BitVec 32 := 1#32
  let arg13 : BitVec 32 := Scf.iv c0_i32_118 c1_i32_120 k0_t4
  let c768_i32 : BitVec 32 := 768#32
  let v158 : BitVec 32 := Scalar.muli arg13 c768_i32
  let v159 : BitVec 32 := v158
  let v180 : Index := Scalar.indexCast v159
  ![384, v180.toNat]
@[reducible] def k0_t5_loop : Scf.Loop 32 :=
  let c0_i32_122 : BitVec 32 := 0#32
  let c9_i32_123 : BitVec 32 := 9#32
  let v138 : BitVec 32 := Scalar.addi c0_i32_122 c9_i32_123
  let c1_i32_124 : BitVec 32 := 1#32
  ⟨c0_i32_122, v138, c1_i32_124⟩
def k0_mult5 (k0_t5 : Fin k0_t5_loop.trips) : BitVec 32 :=
  let c0_i32_122 : BitVec 32 := 0#32
  let c1_i32_124 : BitVec 32 := 1#32
  let arg13 : BitVec 32 := Scf.iv c0_i32_122 c1_i32_124 k0_t5
  let c768_i32 : BitVec 32 := 768#32
  let v158 : BitVec 32 := Scalar.muli arg13 c768_i32
  v158
def k0_off13 (k0_t5 : Fin k0_t5_loop.trips) : Fin 2 → Nat :=
  let c256_192 : Index := 256#32
  let c0_i32_122 : BitVec 32 := 0#32
  let c1_i32_124 : BitVec 32 := 1#32
  let arg13 : BitVec 32 := Scf.iv c0_i32_122 c1_i32_124 k0_t5
  let c768_i32 : BitVec 32 := 768#32
  let v158 : BitVec 32 := Scalar.muli arg13 c768_i32
  let v159 : BitVec 32 := v158
  let v160 : Index := Scalar.indexCast v159
  ![256, v160.toNat]
def k0_off14 (k0_t5 : Fin k0_t5_loop.trips) : Fin 2 → Nat :=
  let c4 : Index := 4#32
  let c0_i32_122 : BitVec 32 := 0#32
  let c1_i32_124 : BitVec 32 := 1#32
  let arg13 : BitVec 32 := Scf.iv c0_i32_122 c1_i32_124 k0_t5
  let c768_i32 : BitVec 32 := 768#32
  let v158 : BitVec 32 := Scalar.muli arg13 c768_i32
  let v159 : BitVec 32 := v158
  let v176 : Index := Scalar.indexCast v159
  ![4, v176.toNat]
def k0_off15 (k0_t5 : Fin k0_t5_loop.trips) : Fin 2 → Nat :=
  let c512_195 : Index := 512#32
  let c0_i32_122 : BitVec 32 := 0#32
  let c1_i32_124 : BitVec 32 := 1#32
  let arg13 : BitVec 32 := Scf.iv c0_i32_122 c1_i32_124 k0_t5
  let c768_i32 : BitVec 32 := 768#32
  let v158 : BitVec 32 := Scalar.muli arg13 c768_i32
  let v159 : BitVec 32 := v158
  let v180 : Index := Scalar.indexCast v159
  ![512, v180.toNat]
@[reducible] def k0_t6_loop : Scf.Loop 32 :=
  let c0_i32_126 : BitVec 32 := 0#32
  let c9_i32_127 : BitVec 32 := 9#32
  let v139 : BitVec 32 := Scalar.addi c0_i32_126 c9_i32_127
  let c1_i32_128 : BitVec 32 := 1#32
  ⟨c0_i32_126, v139, c1_i32_128⟩
def k0_mult6 (k0_t6 : Fin k0_t6_loop.trips) : BitVec 32 :=
  let c0_i32_126 : BitVec 32 := 0#32
  let c1_i32_128 : BitVec 32 := 1#32
  let arg13 : BitVec 32 := Scf.iv c0_i32_126 c1_i32_128 k0_t6
  let c768_i32 : BitVec 32 := 768#32
  let v158 : BitVec 32 := Scalar.muli arg13 c768_i32
  v158
def k0_off16 (k0_t6 : Fin k0_t6_loop.trips) : Fin 2 → Nat :=
  let c320 : Index := 320#32
  let c0_i32_126 : BitVec 32 := 0#32
  let c1_i32_128 : BitVec 32 := 1#32
  let arg13 : BitVec 32 := Scf.iv c0_i32_126 c1_i32_128 k0_t6
  let c768_i32 : BitVec 32 := 768#32
  let v158 : BitVec 32 := Scalar.muli arg13 c768_i32
  let v159 : BitVec 32 := v158
  let v160 : Index := Scalar.indexCast v159
  ![320, v160.toNat]
def k0_off17 (k0_t6 : Fin k0_t6_loop.trips) : Fin 2 → Nat :=
  let c5 : Index := 5#32
  let c0_i32_126 : BitVec 32 := 0#32
  let c1_i32_128 : BitVec 32 := 1#32
  let arg13 : BitVec 32 := Scf.iv c0_i32_126 c1_i32_128 k0_t6
  let c768_i32 : BitVec 32 := 768#32
  let v158 : BitVec 32 := Scalar.muli arg13 c768_i32
  let v159 : BitVec 32 := v158
  let v176 : Index := Scalar.indexCast v159
  ![5, v176.toNat]
def k0_off18 (k0_t6 : Fin k0_t6_loop.trips) : Fin 2 → Nat :=
  let c640 : Index := 640#32
  let c0_i32_126 : BitVec 32 := 0#32
  let c1_i32_128 : BitVec 32 := 1#32
  let arg13 : BitVec 32 := Scf.iv c0_i32_126 c1_i32_128 k0_t6
  let c768_i32 : BitVec 32 := 768#32
  let v158 : BitVec 32 := Scalar.muli arg13 c768_i32
  let v159 : BitVec 32 := v158
  let v180 : Index := Scalar.indexCast v159
  ![640, v180.toNat]
@[reducible] def k0_t7_loop : Scf.Loop 32 :=
  let c0_i32_130 : BitVec 32 := 0#32
  let c9_i32_131 : BitVec 32 := 9#32
  let v140 : BitVec 32 := Scalar.addi c0_i32_130 c9_i32_131
  let c1_i32_132 : BitVec 32 := 1#32
  ⟨c0_i32_130, v140, c1_i32_132⟩
def k0_mult7 (k0_t7 : Fin k0_t7_loop.trips) : BitVec 32 :=
  let c0_i32_130 : BitVec 32 := 0#32
  let c1_i32_132 : BitVec 32 := 1#32
  let arg13 : BitVec 32 := Scf.iv c0_i32_130 c1_i32_132 k0_t7
  let c768_i32 : BitVec 32 := 768#32
  let v158 : BitVec 32 := Scalar.muli arg13 c768_i32
  v158
def k0_off19 (k0_t7 : Fin k0_t7_loop.trips) : Fin 2 → Nat :=
  let c384 : Index := 384#32
  let c0_i32_130 : BitVec 32 := 0#32
  let c1_i32_132 : BitVec 32 := 1#32
  let arg13 : BitVec 32 := Scf.iv c0_i32_130 c1_i32_132 k0_t7
  let c768_i32 : BitVec 32 := 768#32
  let v158 : BitVec 32 := Scalar.muli arg13 c768_i32
  let v159 : BitVec 32 := v158
  let v160 : Index := Scalar.indexCast v159
  ![384, v160.toNat]
def k0_off20 (k0_t7 : Fin k0_t7_loop.trips) : Fin 2 → Nat :=
  let c6 : Index := 6#32
  let c0_i32_130 : BitVec 32 := 0#32
  let c1_i32_132 : BitVec 32 := 1#32
  let arg13 : BitVec 32 := Scf.iv c0_i32_130 c1_i32_132 k0_t7
  let c768_i32 : BitVec 32 := 768#32
  let v158 : BitVec 32 := Scalar.muli arg13 c768_i32
  let v159 : BitVec 32 := v158
  let v176 : Index := Scalar.indexCast v159
  ![6, v176.toNat]
def k0_off21 (k0_t7 : Fin k0_t7_loop.trips) : Fin 2 → Nat :=
  let c768_194 : Index := 768#32
  let c0_i32_130 : BitVec 32 := 0#32
  let c1_i32_132 : BitVec 32 := 1#32
  let arg13 : BitVec 32 := Scf.iv c0_i32_130 c1_i32_132 k0_t7
  let c768_i32 : BitVec 32 := 768#32
  let v158 : BitVec 32 := Scalar.muli arg13 c768_i32
  let v159 : BitVec 32 := v158
  let v180 : Index := Scalar.indexCast v159
  ![768, v180.toNat]
@[reducible] def k0_t8_loop : Scf.Loop 32 :=
  let c0_i32_134 : BitVec 32 := 0#32
  let c9_i32_135 : BitVec 32 := 9#32
  let v141 : BitVec 32 := Scalar.addi c0_i32_134 c9_i32_135
  let c1_i32_136 : BitVec 32 := 1#32
  ⟨c0_i32_134, v141, c1_i32_136⟩
def k0_mult8 (k0_t8 : Fin k0_t8_loop.trips) : BitVec 32 :=
  let c0_i32_134 : BitVec 32 := 0#32
  let c1_i32_136 : BitVec 32 := 1#32
  let arg13 : BitVec 32 := Scf.iv c0_i32_134 c1_i32_136 k0_t8
  let c768_i32 : BitVec 32 := 768#32
  let v158 : BitVec 32 := Scalar.muli arg13 c768_i32
  v158
def k0_off22 (k0_t8 : Fin k0_t8_loop.trips) : Fin 2 → Nat :=
  let c448 : Index := 448#32
  let c0_i32_134 : BitVec 32 := 0#32
  let c1_i32_136 : BitVec 32 := 1#32
  let arg13 : BitVec 32 := Scf.iv c0_i32_134 c1_i32_136 k0_t8
  let c768_i32 : BitVec 32 := 768#32
  let v158 : BitVec 32 := Scalar.muli arg13 c768_i32
  let v159 : BitVec 32 := v158
  let v160 : Index := Scalar.indexCast v159
  ![448, v160.toNat]
def k0_off23 (k0_t8 : Fin k0_t8_loop.trips) : Fin 2 → Nat :=
  let c7 : Index := 7#32
  let c0_i32_134 : BitVec 32 := 0#32
  let c1_i32_136 : BitVec 32 := 1#32
  let arg13 : BitVec 32 := Scf.iv c0_i32_134 c1_i32_136 k0_t8
  let c768_i32 : BitVec 32 := 768#32
  let v158 : BitVec 32 := Scalar.muli arg13 c768_i32
  let v159 : BitVec 32 := v158
  let v176 : Index := Scalar.indexCast v159
  ![7, v176.toNat]
def k0_off24 (k0_t8 : Fin k0_t8_loop.trips) : Fin 2 → Nat :=
  let c896 : Index := 896#32
  let c0_i32_134 : BitVec 32 := 0#32
  let c1_i32_136 : BitVec 32 := 1#32
  let arg13 : BitVec 32 := Scf.iv c0_i32_134 c1_i32_136 k0_t8
  let c768_i32 : BitVec 32 := 768#32
  let v158 : BitVec 32 := Scalar.muli arg13 c768_i32
  let v159 : BitVec 32 := v158
  let v180 : Index := Scalar.indexCast v159
  ![896, v180.toNat]
@[reducible] def k0_t9_loop : Scf.Loop 32 :=
  let c0_i32_138 : BitVec 32 := 0#32
  let c9_i32_139 : BitVec 32 := 9#32
  let v142 : BitVec 32 := Scalar.addi c0_i32_138 c9_i32_139
  let c1_i32_140 : BitVec 32 := 1#32
  ⟨c0_i32_138, v142, c1_i32_140⟩
def k0_mult9 (k0_t9 : Fin k0_t9_loop.trips) : BitVec 32 :=
  let c0_i32_138 : BitVec 32 := 0#32
  let c1_i32_140 : BitVec 32 := 1#32
  let arg13 : BitVec 32 := Scf.iv c0_i32_138 c1_i32_140 k0_t9
  let c768_i32 : BitVec 32 := 768#32
  let v158 : BitVec 32 := Scalar.muli arg13 c768_i32
  v158
def k0_off25 (k0_t9 : Fin k0_t9_loop.trips) : Fin 2 → Nat :=
  let c512_192 : Index := 512#32
  let c0_i32_138 : BitVec 32 := 0#32
  let c1_i32_140 : BitVec 32 := 1#32
  let arg13 : BitVec 32 := Scf.iv c0_i32_138 c1_i32_140 k0_t9
  let c768_i32 : BitVec 32 := 768#32
  let v158 : BitVec 32 := Scalar.muli arg13 c768_i32
  let v159 : BitVec 32 := v158
  let v160 : Index := Scalar.indexCast v159
  ![512, v160.toNat]
def k0_off26 (k0_t9 : Fin k0_t9_loop.trips) : Fin 2 → Nat :=
  let c8 : Index := 8#32
  let c0_i32_138 : BitVec 32 := 0#32
  let c1_i32_140 : BitVec 32 := 1#32
  let arg13 : BitVec 32 := Scf.iv c0_i32_138 c1_i32_140 k0_t9
  let c768_i32 : BitVec 32 := 768#32
  let v158 : BitVec 32 := Scalar.muli arg13 c768_i32
  let v159 : BitVec 32 := v158
  let v176 : Index := Scalar.indexCast v159
  ![8, v176.toNat]
def k0_off27 (k0_t9 : Fin k0_t9_loop.trips) : Fin 2 → Nat :=
  let c1024_195 : Index := 1024#32
  let c0_i32_138 : BitVec 32 := 0#32
  let c1_i32_140 : BitVec 32 := 1#32
  let arg13 : BitVec 32 := Scf.iv c0_i32_138 c1_i32_140 k0_t9
  let c768_i32 : BitVec 32 := 768#32
  let v158 : BitVec 32 := Scalar.muli arg13 c768_i32
  let v159 : BitVec 32 := v158
  let v180 : Index := Scalar.indexCast v159
  ![1024, v180.toNat]
@[reducible] def k0_t10_loop : Scf.Loop 32 :=
  let c0_i32_142 : BitVec 32 := 0#32
  let c9_i32_143 : BitVec 32 := 9#32
  let v143 : BitVec 32 := Scalar.addi c0_i32_142 c9_i32_143
  let c1_i32_144 : BitVec 32 := 1#32
  ⟨c0_i32_142, v143, c1_i32_144⟩
def k0_mult10 (k0_t10 : Fin k0_t10_loop.trips) : BitVec 32 :=
  let c0_i32_142 : BitVec 32 := 0#32
  let c1_i32_144 : BitVec 32 := 1#32
  let arg13 : BitVec 32 := Scf.iv c0_i32_142 c1_i32_144 k0_t10
  let c768_i32 : BitVec 32 := 768#32
  let v158 : BitVec 32 := Scalar.muli arg13 c768_i32
  v158
def k0_off28 (k0_t10 : Fin k0_t10_loop.trips) : Fin 2 → Nat :=
  let c576 : Index := 576#32
  let c0_i32_142 : BitVec 32 := 0#32
  let c1_i32_144 : BitVec 32 := 1#32
  let arg13 : BitVec 32 := Scf.iv c0_i32_142 c1_i32_144 k0_t10
  let c768_i32 : BitVec 32 := 768#32
  let v158 : BitVec 32 := Scalar.muli arg13 c768_i32
  let v159 : BitVec 32 := v158
  let v160 : Index := Scalar.indexCast v159
  ![576, v160.toNat]
def k0_off29 (k0_t10 : Fin k0_t10_loop.trips) : Fin 2 → Nat :=
  let c9 : Index := 9#32
  let c0_i32_142 : BitVec 32 := 0#32
  let c1_i32_144 : BitVec 32 := 1#32
  let arg13 : BitVec 32 := Scf.iv c0_i32_142 c1_i32_144 k0_t10
  let c768_i32 : BitVec 32 := 768#32
  let v158 : BitVec 32 := Scalar.muli arg13 c768_i32
  let v159 : BitVec 32 := v158
  let v176 : Index := Scalar.indexCast v159
  ![9, v176.toNat]
def k0_off30 (k0_t10 : Fin k0_t10_loop.trips) : Fin 2 → Nat :=
  let c1152 : Index := 1152#32
  let c0_i32_142 : BitVec 32 := 0#32
  let c1_i32_144 : BitVec 32 := 1#32
  let arg13 : BitVec 32 := Scf.iv c0_i32_142 c1_i32_144 k0_t10
  let c768_i32 : BitVec 32 := 768#32
  let v158 : BitVec 32 := Scalar.muli arg13 c768_i32
  let v159 : BitVec 32 := v158
  let v180 : Index := Scalar.indexCast v159
  ![1152, v180.toNat]
@[reducible] def k0_t11_loop : Scf.Loop 32 :=
  let c0_i32_146 : BitVec 32 := 0#32
  let c9_i32_147 : BitVec 32 := 9#32
  let v144 : BitVec 32 := Scalar.addi c0_i32_146 c9_i32_147
  let c1_i32_148 : BitVec 32 := 1#32
  ⟨c0_i32_146, v144, c1_i32_148⟩
def k0_mult11 (k0_t11 : Fin k0_t11_loop.trips) : BitVec 32 :=
  let c0_i32_146 : BitVec 32 := 0#32
  let c1_i32_148 : BitVec 32 := 1#32
  let arg13 : BitVec 32 := Scf.iv c0_i32_146 c1_i32_148 k0_t11
  let c768_i32 : BitVec 32 := 768#32
  let v158 : BitVec 32 := Scalar.muli arg13 c768_i32
  v158
def k0_off31 (k0_t11 : Fin k0_t11_loop.trips) : Fin 2 → Nat :=
  let c640 : Index := 640#32
  let c0_i32_146 : BitVec 32 := 0#32
  let c1_i32_148 : BitVec 32 := 1#32
  let arg13 : BitVec 32 := Scf.iv c0_i32_146 c1_i32_148 k0_t11
  let c768_i32 : BitVec 32 := 768#32
  let v158 : BitVec 32 := Scalar.muli arg13 c768_i32
  let v159 : BitVec 32 := v158
  let v160 : Index := Scalar.indexCast v159
  ![640, v160.toNat]
def k0_off32 (k0_t11 : Fin k0_t11_loop.trips) : Fin 2 → Nat :=
  let c10 : Index := 10#32
  let c0_i32_146 : BitVec 32 := 0#32
  let c1_i32_148 : BitVec 32 := 1#32
  let arg13 : BitVec 32 := Scf.iv c0_i32_146 c1_i32_148 k0_t11
  let c768_i32 : BitVec 32 := 768#32
  let v158 : BitVec 32 := Scalar.muli arg13 c768_i32
  let v159 : BitVec 32 := v158
  let v176 : Index := Scalar.indexCast v159
  ![10, v176.toNat]
def k0_off33 (k0_t11 : Fin k0_t11_loop.trips) : Fin 2 → Nat :=
  let c1280_194 : Index := 1280#32
  let c0_i32_146 : BitVec 32 := 0#32
  let c1_i32_148 : BitVec 32 := 1#32
  let arg13 : BitVec 32 := Scf.iv c0_i32_146 c1_i32_148 k0_t11
  let c768_i32 : BitVec 32 := 768#32
  let v158 : BitVec 32 := Scalar.muli arg13 c768_i32
  let v159 : BitVec 32 := v158
  let v180 : Index := Scalar.indexCast v159
  ![1280, v180.toNat]
@[reducible] def k0_t12_loop : Scf.Loop 32 :=
  let c0_i32_150 : BitVec 32 := 0#32
  let c9_i32_151 : BitVec 32 := 9#32
  let v145 : BitVec 32 := Scalar.addi c0_i32_150 c9_i32_151
  let c1_i32_152 : BitVec 32 := 1#32
  ⟨c0_i32_150, v145, c1_i32_152⟩
def k0_mult12 (k0_t12 : Fin k0_t12_loop.trips) : BitVec 32 :=
  let c0_i32_150 : BitVec 32 := 0#32
  let c1_i32_152 : BitVec 32 := 1#32
  let arg13 : BitVec 32 := Scf.iv c0_i32_150 c1_i32_152 k0_t12
  let c768_i32 : BitVec 32 := 768#32
  let v158 : BitVec 32 := Scalar.muli arg13 c768_i32
  v158
def k0_off34 (k0_t12 : Fin k0_t12_loop.trips) : Fin 2 → Nat :=
  let c704 : Index := 704#32
  let c0_i32_150 : BitVec 32 := 0#32
  let c1_i32_152 : BitVec 32 := 1#32
  let arg13 : BitVec 32 := Scf.iv c0_i32_150 c1_i32_152 k0_t12
  let c768_i32 : BitVec 32 := 768#32
  let v158 : BitVec 32 := Scalar.muli arg13 c768_i32
  let v159 : BitVec 32 := v158
  let v160 : Index := Scalar.indexCast v159
  ![704, v160.toNat]
def k0_off35 (k0_t12 : Fin k0_t12_loop.trips) : Fin 2 → Nat :=
  let c11 : Index := 11#32
  let c0_i32_150 : BitVec 32 := 0#32
  let c1_i32_152 : BitVec 32 := 1#32
  let arg13 : BitVec 32 := Scf.iv c0_i32_150 c1_i32_152 k0_t12
  let c768_i32 : BitVec 32 := 768#32
  let v158 : BitVec 32 := Scalar.muli arg13 c768_i32
  let v159 : BitVec 32 := v158
  let v176 : Index := Scalar.indexCast v159
  ![11, v176.toNat]
def k0_off36 (k0_t12 : Fin k0_t12_loop.trips) : Fin 2 → Nat :=
  let c1408 : Index := 1408#32
  let c0_i32_150 : BitVec 32 := 0#32
  let c1_i32_152 : BitVec 32 := 1#32
  let arg13 : BitVec 32 := Scf.iv c0_i32_150 c1_i32_152 k0_t12
  let c768_i32 : BitVec 32 := 768#32
  let v158 : BitVec 32 := Scalar.muli arg13 c768_i32
  let v159 : BitVec 32 := v158
  let v180 : Index := Scalar.indexCast v159
  ![1408, v180.toNat]
@[reducible] def k0_t13_loop : Scf.Loop 32 :=
  let c0_i32_154 : BitVec 32 := 0#32
  let c9_i32_155 : BitVec 32 := 9#32
  let v146 : BitVec 32 := Scalar.addi c0_i32_154 c9_i32_155
  let c1_i32_156 : BitVec 32 := 1#32
  ⟨c0_i32_154, v146, c1_i32_156⟩
def k0_mult13 (k0_t13 : Fin k0_t13_loop.trips) : BitVec 32 :=
  let c0_i32_154 : BitVec 32 := 0#32
  let c1_i32_156 : BitVec 32 := 1#32
  let arg13 : BitVec 32 := Scf.iv c0_i32_154 c1_i32_156 k0_t13
  let c768_i32 : BitVec 32 := 768#32
  let v158 : BitVec 32 := Scalar.muli arg13 c768_i32
  v158
def k0_off37 (k0_t13 : Fin k0_t13_loop.trips) : Fin 2 → Nat :=
  let c768_192 : Index := 768#32
  let c0_i32_154 : BitVec 32 := 0#32
  let c1_i32_156 : BitVec 32 := 1#32
  let arg13 : BitVec 32 := Scf.iv c0_i32_154 c1_i32_156 k0_t13
  let c768_i32 : BitVec 32 := 768#32
  let v158 : BitVec 32 := Scalar.muli arg13 c768_i32
  let v159 : BitVec 32 := v158
  let v160 : Index := Scalar.indexCast v159
  ![768, v160.toNat]
def k0_off38 (k0_t13 : Fin k0_t13_loop.trips) : Fin 2 → Nat :=
  let c12 : Index := 12#32
  let c0_i32_154 : BitVec 32 := 0#32
  let c1_i32_156 : BitVec 32 := 1#32
  let arg13 : BitVec 32 := Scf.iv c0_i32_154 c1_i32_156 k0_t13
  let c768_i32 : BitVec 32 := 768#32
  let v158 : BitVec 32 := Scalar.muli arg13 c768_i32
  let v159 : BitVec 32 := v158
  let v176 : Index := Scalar.indexCast v159
  ![12, v176.toNat]
def k0_off39 (k0_t13 : Fin k0_t13_loop.trips) : Fin 2 → Nat :=
  let c1536_195 : Index := 1536#32
  let c0_i32_154 : BitVec 32 := 0#32
  let c1_i32_156 : BitVec 32 := 1#32
  let arg13 : BitVec 32 := Scf.iv c0_i32_154 c1_i32_156 k0_t13
  let c768_i32 : BitVec 32 := 768#32
  let v158 : BitVec 32 := Scalar.muli arg13 c768_i32
  let v159 : BitVec 32 := v158
  let v180 : Index := Scalar.indexCast v159
  ![1536, v180.toNat]
@[reducible] def k0_t14_loop : Scf.Loop 32 :=
  let c0_i32_158 : BitVec 32 := 0#32
  let c9_i32_159 : BitVec 32 := 9#32
  let v147 : BitVec 32 := Scalar.addi c0_i32_158 c9_i32_159
  let c1_i32_160 : BitVec 32 := 1#32
  ⟨c0_i32_158, v147, c1_i32_160⟩
def k0_mult14 (k0_t14 : Fin k0_t14_loop.trips) : BitVec 32 :=
  let c0_i32_158 : BitVec 32 := 0#32
  let c1_i32_160 : BitVec 32 := 1#32
  let arg13 : BitVec 32 := Scf.iv c0_i32_158 c1_i32_160 k0_t14
  let c768_i32 : BitVec 32 := 768#32
  let v158 : BitVec 32 := Scalar.muli arg13 c768_i32
  v158
def k0_off40 (k0_t14 : Fin k0_t14_loop.trips) : Fin 2 → Nat :=
  let c832 : Index := 832#32
  let c0_i32_158 : BitVec 32 := 0#32
  let c1_i32_160 : BitVec 32 := 1#32
  let arg13 : BitVec 32 := Scf.iv c0_i32_158 c1_i32_160 k0_t14
  let c768_i32 : BitVec 32 := 768#32
  let v158 : BitVec 32 := Scalar.muli arg13 c768_i32
  let v159 : BitVec 32 := v158
  let v160 : Index := Scalar.indexCast v159
  ![832, v160.toNat]
def k0_off41 (k0_t14 : Fin k0_t14_loop.trips) : Fin 2 → Nat :=
  let c13 : Index := 13#32
  let c0_i32_158 : BitVec 32 := 0#32
  let c1_i32_160 : BitVec 32 := 1#32
  let arg13 : BitVec 32 := Scf.iv c0_i32_158 c1_i32_160 k0_t14
  let c768_i32 : BitVec 32 := 768#32
  let v158 : BitVec 32 := Scalar.muli arg13 c768_i32
  let v159 : BitVec 32 := v158
  let v176 : Index := Scalar.indexCast v159
  ![13, v176.toNat]
def k0_off42 (k0_t14 : Fin k0_t14_loop.trips) : Fin 2 → Nat :=
  let c1664 : Index := 1664#32
  let c0_i32_158 : BitVec 32 := 0#32
  let c1_i32_160 : BitVec 32 := 1#32
  let arg13 : BitVec 32 := Scf.iv c0_i32_158 c1_i32_160 k0_t14
  let c768_i32 : BitVec 32 := 768#32
  let v158 : BitVec 32 := Scalar.muli arg13 c768_i32
  let v159 : BitVec 32 := v158
  let v180 : Index := Scalar.indexCast v159
  ![1664, v180.toNat]
@[reducible] def k0_t15_loop : Scf.Loop 32 :=
  let c0_i32_162 : BitVec 32 := 0#32
  let c9_i32_163 : BitVec 32 := 9#32
  let v148 : BitVec 32 := Scalar.addi c0_i32_162 c9_i32_163
  let c1_i32_164 : BitVec 32 := 1#32
  ⟨c0_i32_162, v148, c1_i32_164⟩
def k0_mult15 (k0_t15 : Fin k0_t15_loop.trips) : BitVec 32 :=
  let c0_i32_162 : BitVec 32 := 0#32
  let c1_i32_164 : BitVec 32 := 1#32
  let arg13 : BitVec 32 := Scf.iv c0_i32_162 c1_i32_164 k0_t15
  let c768_i32 : BitVec 32 := 768#32
  let v158 : BitVec 32 := Scalar.muli arg13 c768_i32
  v158
def k0_off43 (k0_t15 : Fin k0_t15_loop.trips) : Fin 2 → Nat :=
  let c896 : Index := 896#32
  let c0_i32_162 : BitVec 32 := 0#32
  let c1_i32_164 : BitVec 32 := 1#32
  let arg13 : BitVec 32 := Scf.iv c0_i32_162 c1_i32_164 k0_t15
  let c768_i32 : BitVec 32 := 768#32
  let v158 : BitVec 32 := Scalar.muli arg13 c768_i32
  let v159 : BitVec 32 := v158
  let v160 : Index := Scalar.indexCast v159
  ![896, v160.toNat]
def k0_off44 (k0_t15 : Fin k0_t15_loop.trips) : Fin 2 → Nat :=
  let c14 : Index := 14#32
  let c0_i32_162 : BitVec 32 := 0#32
  let c1_i32_164 : BitVec 32 := 1#32
  let arg13 : BitVec 32 := Scf.iv c0_i32_162 c1_i32_164 k0_t15
  let c768_i32 : BitVec 32 := 768#32
  let v158 : BitVec 32 := Scalar.muli arg13 c768_i32
  let v159 : BitVec 32 := v158
  let v176 : Index := Scalar.indexCast v159
  ![14, v176.toNat]
def k0_off45 (k0_t15 : Fin k0_t15_loop.trips) : Fin 2 → Nat :=
  let c1792_194 : Index := 1792#32
  let c0_i32_162 : BitVec 32 := 0#32
  let c1_i32_164 : BitVec 32 := 1#32
  let arg13 : BitVec 32 := Scf.iv c0_i32_162 c1_i32_164 k0_t15
  let c768_i32 : BitVec 32 := 768#32
  let v158 : BitVec 32 := Scalar.muli arg13 c768_i32
  let v159 : BitVec 32 := v158
  let v180 : Index := Scalar.indexCast v159
  ![1792, v180.toNat]
@[reducible] def k0_t16_loop : Scf.Loop 32 :=
  let c0_i32_166 : BitVec 32 := 0#32
  let c9_i32_167 : BitVec 32 := 9#32
  let v149 : BitVec 32 := Scalar.addi c0_i32_166 c9_i32_167
  let c1_i32_168 : BitVec 32 := 1#32
  ⟨c0_i32_166, v149, c1_i32_168⟩
def k0_mult16 (k0_t16 : Fin k0_t16_loop.trips) : BitVec 32 :=
  let c0_i32_166 : BitVec 32 := 0#32
  let c1_i32_168 : BitVec 32 := 1#32
  let arg13 : BitVec 32 := Scf.iv c0_i32_166 c1_i32_168 k0_t16
  let c768_i32 : BitVec 32 := 768#32
  let v158 : BitVec 32 := Scalar.muli arg13 c768_i32
  v158
def k0_off46 (k0_t16 : Fin k0_t16_loop.trips) : Fin 2 → Nat :=
  let c960 : Index := 960#32
  let c0_i32_166 : BitVec 32 := 0#32
  let c1_i32_168 : BitVec 32 := 1#32
  let arg13 : BitVec 32 := Scf.iv c0_i32_166 c1_i32_168 k0_t16
  let c768_i32 : BitVec 32 := 768#32
  let v158 : BitVec 32 := Scalar.muli arg13 c768_i32
  let v159 : BitVec 32 := v158
  let v160 : Index := Scalar.indexCast v159
  ![960, v160.toNat]
def k0_off47 (k0_t16 : Fin k0_t16_loop.trips) : Fin 2 → Nat :=
  let c15 : Index := 15#32
  let c0_i32_166 : BitVec 32 := 0#32
  let c1_i32_168 : BitVec 32 := 1#32
  let arg13 : BitVec 32 := Scf.iv c0_i32_166 c1_i32_168 k0_t16
  let c768_i32 : BitVec 32 := 768#32
  let v158 : BitVec 32 := Scalar.muli arg13 c768_i32
  let v159 : BitVec 32 := v158
  let v176 : Index := Scalar.indexCast v159
  ![15, v176.toNat]
def k0_off48 (k0_t16 : Fin k0_t16_loop.trips) : Fin 2 → Nat :=
  let c1920 : Index := 1920#32
  let c0_i32_166 : BitVec 32 := 0#32
  let c1_i32_168 : BitVec 32 := 1#32
  let arg13 : BitVec 32 := Scf.iv c0_i32_166 c1_i32_168 k0_t16
  let c768_i32 : BitVec 32 := 768#32
  let v158 : BitVec 32 := Scalar.muli arg13 c768_i32
  let v159 : BitVec 32 := v158
  let v180 : Index := Scalar.indexCast v159
  ![1920, v180.toNat]
@[reducible] def k0_t17_loop : Scf.Loop 32 :=
  let c0_i32_170 : BitVec 32 := 0#32
  let c9_i32_171 : BitVec 32 := 9#32
  let v150 : BitVec 32 := Scalar.addi c0_i32_170 c9_i32_171
  let c1_i32_172 : BitVec 32 := 1#32
  ⟨c0_i32_170, v150, c1_i32_172⟩
def k0_mult17 (k0_t17 : Fin k0_t17_loop.trips) : BitVec 32 :=
  let c0_i32_170 : BitVec 32 := 0#32
  let c1_i32_172 : BitVec 32 := 1#32
  let arg13 : BitVec 32 := Scf.iv c0_i32_170 c1_i32_172 k0_t17
  let c768_i32 : BitVec 32 := 768#32
  let v158 : BitVec 32 := Scalar.muli arg13 c768_i32
  v158
def k0_off49 (k0_t17 : Fin k0_t17_loop.trips) : Fin 2 → Nat :=
  let c1024_192 : Index := 1024#32
  let c0_i32_170 : BitVec 32 := 0#32
  let c1_i32_172 : BitVec 32 := 1#32
  let arg13 : BitVec 32 := Scf.iv c0_i32_170 c1_i32_172 k0_t17
  let c768_i32 : BitVec 32 := 768#32
  let v158 : BitVec 32 := Scalar.muli arg13 c768_i32
  let v159 : BitVec 32 := v158
  let v160 : Index := Scalar.indexCast v159
  ![1024, v160.toNat]
def k0_off50 (k0_t17 : Fin k0_t17_loop.trips) : Fin 2 → Nat :=
  let c16 : Index := 16#32
  let c0_i32_170 : BitVec 32 := 0#32
  let c1_i32_172 : BitVec 32 := 1#32
  let arg13 : BitVec 32 := Scf.iv c0_i32_170 c1_i32_172 k0_t17
  let c768_i32 : BitVec 32 := 768#32
  let v158 : BitVec 32 := Scalar.muli arg13 c768_i32
  let v159 : BitVec 32 := v158
  let v176 : Index := Scalar.indexCast v159
  ![16, v176.toNat]
def k0_off51 (k0_t17 : Fin k0_t17_loop.trips) : Fin 2 → Nat :=
  let c2048_195 : Index := 2048#32
  let c0_i32_170 : BitVec 32 := 0#32
  let c1_i32_172 : BitVec 32 := 1#32
  let arg13 : BitVec 32 := Scf.iv c0_i32_170 c1_i32_172 k0_t17
  let c768_i32 : BitVec 32 := 768#32
  let v158 : BitVec 32 := Scalar.muli arg13 c768_i32
  let v159 : BitVec 32 := v158
  let v180 : Index := Scalar.indexCast v159
  ![2048, v180.toNat]
@[reducible] def k0_t18_loop : Scf.Loop 32 :=
  let c0_i32_174 : BitVec 32 := 0#32
  let c9_i32_175 : BitVec 32 := 9#32
  let v151 : BitVec 32 := Scalar.addi c0_i32_174 c9_i32_175
  let c1_i32_176 : BitVec 32 := 1#32
  ⟨c0_i32_174, v151, c1_i32_176⟩
def k0_mult18 (k0_t18 : Fin k0_t18_loop.trips) : BitVec 32 :=
  let c0_i32_174 : BitVec 32 := 0#32
  let c1_i32_176 : BitVec 32 := 1#32
  let arg13 : BitVec 32 := Scf.iv c0_i32_174 c1_i32_176 k0_t18
  let c768_i32 : BitVec 32 := 768#32
  let v158 : BitVec 32 := Scalar.muli arg13 c768_i32
  v158
def k0_off52 (k0_t18 : Fin k0_t18_loop.trips) : Fin 2 → Nat :=
  let c1088 : Index := 1088#32
  let c0_i32_174 : BitVec 32 := 0#32
  let c1_i32_176 : BitVec 32 := 1#32
  let arg13 : BitVec 32 := Scf.iv c0_i32_174 c1_i32_176 k0_t18
  let c768_i32 : BitVec 32 := 768#32
  let v158 : BitVec 32 := Scalar.muli arg13 c768_i32
  let v159 : BitVec 32 := v158
  let v160 : Index := Scalar.indexCast v159
  ![1088, v160.toNat]
def k0_off53 (k0_t18 : Fin k0_t18_loop.trips) : Fin 2 → Nat :=
  let c17 : Index := 17#32
  let c0_i32_174 : BitVec 32 := 0#32
  let c1_i32_176 : BitVec 32 := 1#32
  let arg13 : BitVec 32 := Scf.iv c0_i32_174 c1_i32_176 k0_t18
  let c768_i32 : BitVec 32 := 768#32
  let v158 : BitVec 32 := Scalar.muli arg13 c768_i32
  let v159 : BitVec 32 := v158
  let v176 : Index := Scalar.indexCast v159
  ![17, v176.toNat]
def k0_off54 (k0_t18 : Fin k0_t18_loop.trips) : Fin 2 → Nat :=
  let c2176 : Index := 2176#32
  let c0_i32_174 : BitVec 32 := 0#32
  let c1_i32_176 : BitVec 32 := 1#32
  let arg13 : BitVec 32 := Scf.iv c0_i32_174 c1_i32_176 k0_t18
  let c768_i32 : BitVec 32 := 768#32
  let v158 : BitVec 32 := Scalar.muli arg13 c768_i32
  let v159 : BitVec 32 := v158
  let v180 : Index := Scalar.indexCast v159
  ![2176, v180.toNat]
@[reducible] def k0_t19_loop : Scf.Loop 32 :=
  let c0_i32_178 : BitVec 32 := 0#32
  let c9_i32_179 : BitVec 32 := 9#32
  let v152 : BitVec 32 := Scalar.addi c0_i32_178 c9_i32_179
  let c1_i32_180 : BitVec 32 := 1#32
  ⟨c0_i32_178, v152, c1_i32_180⟩
def k0_mult19 (k0_t19 : Fin k0_t19_loop.trips) : BitVec 32 :=
  let c0_i32_178 : BitVec 32 := 0#32
  let c1_i32_180 : BitVec 32 := 1#32
  let arg13 : BitVec 32 := Scf.iv c0_i32_178 c1_i32_180 k0_t19
  let c768_i32 : BitVec 32 := 768#32
  let v158 : BitVec 32 := Scalar.muli arg13 c768_i32
  v158
def k0_off55 (k0_t19 : Fin k0_t19_loop.trips) : Fin 2 → Nat :=
  let c1152 : Index := 1152#32
  let c0_i32_178 : BitVec 32 := 0#32
  let c1_i32_180 : BitVec 32 := 1#32
  let arg13 : BitVec 32 := Scf.iv c0_i32_178 c1_i32_180 k0_t19
  let c768_i32 : BitVec 32 := 768#32
  let v158 : BitVec 32 := Scalar.muli arg13 c768_i32
  let v159 : BitVec 32 := v158
  let v160 : Index := Scalar.indexCast v159
  ![1152, v160.toNat]
def k0_off56 (k0_t19 : Fin k0_t19_loop.trips) : Fin 2 → Nat :=
  let c18 : Index := 18#32
  let c0_i32_178 : BitVec 32 := 0#32
  let c1_i32_180 : BitVec 32 := 1#32
  let arg13 : BitVec 32 := Scf.iv c0_i32_178 c1_i32_180 k0_t19
  let c768_i32 : BitVec 32 := 768#32
  let v158 : BitVec 32 := Scalar.muli arg13 c768_i32
  let v159 : BitVec 32 := v158
  let v176 : Index := Scalar.indexCast v159
  ![18, v176.toNat]
def k0_off57 (k0_t19 : Fin k0_t19_loop.trips) : Fin 2 → Nat :=
  let c2304_194 : Index := 2304#32
  let c0_i32_178 : BitVec 32 := 0#32
  let c1_i32_180 : BitVec 32 := 1#32
  let arg13 : BitVec 32 := Scf.iv c0_i32_178 c1_i32_180 k0_t19
  let c768_i32 : BitVec 32 := 768#32
  let v158 : BitVec 32 := Scalar.muli arg13 c768_i32
  let v159 : BitVec 32 := v158
  let v180 : Index := Scalar.indexCast v159
  ![2304, v180.toNat]
@[reducible] def k0_t20_loop : Scf.Loop 32 :=
  let c0_i32_182 : BitVec 32 := 0#32
  let c9_i32_183 : BitVec 32 := 9#32
  let v153 : BitVec 32 := Scalar.addi c0_i32_182 c9_i32_183
  let c1_i32_184 : BitVec 32 := 1#32
  ⟨c0_i32_182, v153, c1_i32_184⟩
def k0_mult20 (k0_t20 : Fin k0_t20_loop.trips) : BitVec 32 :=
  let c0_i32_182 : BitVec 32 := 0#32
  let c1_i32_184 : BitVec 32 := 1#32
  let arg13 : BitVec 32 := Scf.iv c0_i32_182 c1_i32_184 k0_t20
  let c768_i32 : BitVec 32 := 768#32
  let v158 : BitVec 32 := Scalar.muli arg13 c768_i32
  v158
def k0_off58 (k0_t20 : Fin k0_t20_loop.trips) : Fin 2 → Nat :=
  let c1216 : Index := 1216#32
  let c0_i32_182 : BitVec 32 := 0#32
  let c1_i32_184 : BitVec 32 := 1#32
  let arg13 : BitVec 32 := Scf.iv c0_i32_182 c1_i32_184 k0_t20
  let c768_i32 : BitVec 32 := 768#32
  let v158 : BitVec 32 := Scalar.muli arg13 c768_i32
  let v159 : BitVec 32 := v158
  let v160 : Index := Scalar.indexCast v159
  ![1216, v160.toNat]
def k0_off59 (k0_t20 : Fin k0_t20_loop.trips) : Fin 2 → Nat :=
  let c19 : Index := 19#32
  let c0_i32_182 : BitVec 32 := 0#32
  let c1_i32_184 : BitVec 32 := 1#32
  let arg13 : BitVec 32 := Scf.iv c0_i32_182 c1_i32_184 k0_t20
  let c768_i32 : BitVec 32 := 768#32
  let v158 : BitVec 32 := Scalar.muli arg13 c768_i32
  let v159 : BitVec 32 := v158
  let v176 : Index := Scalar.indexCast v159
  ![19, v176.toNat]
def k0_off60 (k0_t20 : Fin k0_t20_loop.trips) : Fin 2 → Nat :=
  let c2432 : Index := 2432#32
  let c0_i32_182 : BitVec 32 := 0#32
  let c1_i32_184 : BitVec 32 := 1#32
  let arg13 : BitVec 32 := Scf.iv c0_i32_182 c1_i32_184 k0_t20
  let c768_i32 : BitVec 32 := 768#32
  let v158 : BitVec 32 := Scalar.muli arg13 c768_i32
  let v159 : BitVec 32 := v158
  let v180 : Index := Scalar.indexCast v159
  ![2432, v180.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x6912 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1280x6912 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x6912 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x6912 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x6912 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x16x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S24x1024x2560 : Shape := ⟨3, ![24, 1024, 2560]⟩
abbrev S24x1024x6912 : Shape := ⟨3, ![24, 1024, 6912]⟩
abbrev S1280x6912 : Shape := ⟨2, ![1280, 6912]⟩
abbrev S20x6912 : Shape := ⟨2, ![20, 6912]⟩
abbrev S2560x16 : Shape := ⟨2, ![2560, 16]⟩
abbrev S16x6912 : Shape := ⟨2, ![16, 6912]⟩
abbrev S24576x2560 : Shape := ⟨2, ![24576, 2560]⟩
abbrev S24576x6912 : Shape := ⟨2, ![24576, 6912]⟩
abbrev S_ : Shape := ⟨0, ![]⟩
abbrev S20x64x6912 : Shape := ⟨3, ![20, 64, 6912]⟩
abbrev S20x1x6912 : Shape := ⟨3, ![20, 1, 6912]⟩
abbrev S24576x1280 : Shape := ⟨2, ![24576, 1280]⟩
abbrev S24576x1280x1 : Shape := ⟨3, ![24576, 1280, 1]⟩
abbrev S24576x1280x2 : Shape := ⟨3, ![24576, 1280, 2]⟩
abbrev S24576x16 : Shape := ⟨2, ![24576, 16]⟩
abbrev S24x1024x16 : Shape := ⟨3, ![24, 1024, 16]⟩

abbrev nBuf : Space → Nat
  | .hbm => 75
  | .vmem => 0
  | .smem => 0
  | _ => 0

abbrev bufTy : (tb : Table) → Fin (tcTables nBuf tb) → BufTy
  | .hbm, ⟨0, _⟩ => ⟨S24x1024x2560, .bf16⟩
  | .hbm, ⟨1, _⟩ => ⟨S24x1024x6912, .bf16⟩
  | .hbm, ⟨2, _⟩ => ⟨S1280x6912, .i8⟩
  | .hbm, ⟨3, _⟩ => ⟨S20x6912, .bf16⟩
  | .hbm, ⟨4, _⟩ => ⟨S2560x16, .bf16⟩
  | .hbm, ⟨5, _⟩ => ⟨S16x6912, .bf16⟩
  | .hbm, ⟨6, _⟩ => ⟨S24576x2560, .bf16⟩
  | .hbm, ⟨7, _⟩ => ⟨S24576x6912, .bf16⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1280x6912, .i32⟩
  | .hbm, ⟨12, _⟩ => ⟨S_, .i32⟩
  | .hbm, ⟨13, _⟩ => ⟨S1280x6912, .i32⟩
  | .hbm, ⟨14, _⟩ => ⟨S1280x6912, .i32⟩
  | .hbm, ⟨15, _⟩ => ⟨S_, .i32⟩
  | .hbm, ⟨16, _⟩ => ⟨S1280x6912, .i32⟩
  | .hbm, ⟨17, _⟩ => ⟨S1280x6912, .i1⟩
  | .hbm, ⟨18, _⟩ => ⟨S_, .i32⟩
  | .hbm, ⟨19, _⟩ => ⟨S1280x6912, .i32⟩
  | .hbm, ⟨20, _⟩ => ⟨S1280x6912, .i32⟩
  | .hbm, ⟨21, _⟩ => ⟨S1280x6912, .i32⟩
  | .hbm, ⟨22, _⟩ => ⟨S1280x6912, .i8⟩
  | .hbm, ⟨23, _⟩ => ⟨S_, .i32⟩
  | .hbm, ⟨24, _⟩ => ⟨S1280x6912, .i32⟩
  | .hbm, ⟨25, _⟩ => ⟨S1280x6912, .i32⟩
  | .hbm, ⟨26, _⟩ => ⟨S_, .i32⟩
  | .hbm, ⟨27, _⟩ => ⟨S1280x6912, .i32⟩
  | .hbm, ⟨28, _⟩ => ⟨S1280x6912, .i32⟩
  | .hbm, ⟨29, _⟩ => ⟨S_, .i32⟩
  | .hbm, ⟨30, _⟩ => ⟨S1280x6912, .i32⟩
  | .hbm, ⟨31, _⟩ => ⟨S1280x6912, .i1⟩
  | .hbm, ⟨32, _⟩ => ⟨S_, .i32⟩
  | .hbm, ⟨33, _⟩ => ⟨S1280x6912, .i32⟩
  | .hbm, ⟨34, _⟩ => ⟨S1280x6912, .i32⟩
  | .hbm, ⟨35, _⟩ => ⟨S1280x6912, .i32⟩
  | .hbm, ⟨36, _⟩ => ⟨S1280x6912, .i8⟩
  | .hbm, ⟨37, _⟩ => ⟨S1280x6912, .i32⟩
  | .hbm, ⟨38, _⟩ => ⟨S1280x6912, .bf16⟩
  | .hbm, ⟨39, _⟩ => ⟨S20x64x6912, .bf16⟩
  | .hbm, ⟨40, _⟩ => ⟨S20x1x6912, .bf16⟩
  | .hbm, ⟨41, _⟩ => ⟨S20x64x6912, .bf16⟩
  | .hbm, ⟨42, _⟩ => ⟨S20x64x6912, .bf16⟩
  | .hbm, ⟨43, _⟩ => ⟨S1280x6912, .bf16⟩
  | .hbm, ⟨44, _⟩ => ⟨S1280x6912, .i32⟩
  | .hbm, ⟨45, _⟩ => ⟨S1280x6912, .bf16⟩
  | .hbm, ⟨46, _⟩ => ⟨S20x64x6912, .bf16⟩
  | .hbm, ⟨47, _⟩ => ⟨S20x1x6912, .bf16⟩
  | .hbm, ⟨48, _⟩ => ⟨S20x64x6912, .bf16⟩
  | .hbm, ⟨49, _⟩ => ⟨S20x64x6912, .bf16⟩
  | .hbm, ⟨50, _⟩ => ⟨S1280x6912, .bf16⟩
  | .hbm, ⟨51, _⟩ => ⟨S24576x1280, .f32⟩
  | .hbm, ⟨52, _⟩ => ⟨S24576x1280, .f32⟩
  | .hbm, ⟨53, _⟩ => ⟨S24576x1280x1, .f32⟩
  | .hbm, ⟨54, _⟩ => ⟨S24576x1280x1, .f32⟩
  | .hbm, ⟨55, _⟩ => ⟨S24576x1280x2, .f32⟩
  | .hbm, ⟨56, _⟩ => ⟨S24576x2560, .f32⟩
  | .hbm, ⟨57, _⟩ => ⟨S24576x16, .f32⟩
  | .hbm, ⟨58, _⟩ => ⟨S24576x16, .bf16⟩
  | .hbm, ⟨59, _⟩ => ⟨S24576x16, .f32⟩
  | .hbm, ⟨60, _⟩ => ⟨S24576x16, .bf16⟩
  | .hbm, ⟨61, _⟩ => ⟨S24576x2560, .f32⟩
  | .hbm, ⟨62, _⟩ => ⟨S24576x2560, .f32⟩
  | .hbm, ⟨63, _⟩ => ⟨S24576x2560, .f32⟩
  | .hbm, ⟨64, _⟩ => ⟨S24576x2560, .f32⟩
  | .hbm, ⟨65, _⟩ => ⟨S24576x2560, .bf16⟩
  | .hbm, ⟨66, _⟩ => ⟨S24x1024x2560, .bf16⟩
  | .hbm, ⟨67, _⟩ => ⟨S2560x16, .f32⟩
  | .hbm, ⟨68, _⟩ => ⟨S2560x16, .f32⟩
  | .hbm, ⟨69, _⟩ => ⟨S2560x16, .f32⟩
  | .hbm, ⟨70, _⟩ => ⟨S16x6912, .f32⟩
  | .hbm, ⟨71, _⟩ => ⟨S16x6912, .f32⟩
  | .hbm, ⟨72, _⟩ => ⟨S16x6912, .f32⟩
  | .hbm, ⟨73, _⟩ => ⟨S24x1024x16, .bf16⟩
  | .hbm, ⟨74, _⟩ => ⟨S24x1024x16, .bf16⟩
  | _, _ => ⟨S24x1024x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_c_5 : Ref sig .tc := ⟨.hbm, 29, rfl⟩
abbrev main_v16 : Ref sig .tc := ⟨.hbm, 30, rfl⟩
abbrev main_v17 : Ref sig .tc := ⟨.hbm, 31, rfl⟩
abbrev main_c_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== Proof.KernelIdeal.Weights.lean ====
/- The dequantised weights the kernel keeps in its scratch buffer, and the twenty counted loops that fill it at the
   grid's first point: each trip decodes one tile of 128 rows and 768 columns. -/
module

public import proofs.«01_k».proof.Proof.Gen.KernelIdeal.Skeleton
public import proofs.«01_k».proof.Proof.Gen.KernelIdeal.Frame
public import Idealize.ShloMosaic.Lib.WritesUnit
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The column at which trip `k` of a loop starts, as the kernel computes it: `768 * k` in 32-bit words. -/
def tileCol (k : ℕ) : ℕ := (Scalar.indexCast (Scalar.muli (Scf.iv 0#32 1#32 k) 768#32)).toNat

theorem tileCol_eq : ∀ k, k < 9 → tileCol k = 768 * k := by decide

theorem codes_inb (g k : ℕ) (hg : g < 20) (hk : k < 9) : ∀ a, (![64 * g, tileCol k] : Fin 2 → ℕ) a + S64x768.size a ≤ S1280x6912.size a := by
  intro a; fin_cases a
  · show 64 * g + 64 ≤ 1280; omega
  · show tileCol k + 768 ≤ 6912; rw [tileCol_eq k hk]; omega

theorem scales_inb (g k : ℕ) (hg : g < 20) (hk : k < 9) : ∀ a, (![g, tileCol k] : Fin 2 → ℕ) a + S1x768.size a ≤ S20x6912.size a := by
  intro a; fin_cases a
  · show g + 1 ≤ 20; omega
  · show tileCol k + 768 ≤ 6912; rw [tileCol_eq k hk]; omega

theorem weights_inb (g k : ℕ) (hg : g < 20) (hk : k < 9) : ∀ a, (![128 * g, tileCol k] : Fin 2 → ℕ) a + S128x768.size a ≤ S2560x6912.size a := by
  intro a; fin_cases a
  · show 128 * g + 128 ≤ 2560; omega
  · show tileCol k + 768 ≤ 6912; rw [tileCol_eq k hk]; omega

/-- The decoded tile of group `g` and column tile `k`: the stored codes and scales of that tile, decoded. -/
def tile (x2 : Vec F S1280x6912 .i8) (x3 : Vec F S20x6912 .bf16) (g k : ℕ) (hg : g < 20) (hk : k < 9) : FVec F S128x768 .bf16 :=
  k0_pay3 (View.ld x2 (Rect.unit (s := S1280x6912) ![64 * g, tileCol k] S64x768.size (codes_inb g k hg hk)))
    (View.ld x3 (Rect.unit (s := S20x6912) ![g, tileCol k] S1x768.size (scales_inb g k hg hk)))

theorem row_lt (y : S2560x6912.Idx) : (y 0).val / 128 < 20 := by have : (y 0).val < 2560 := (y 0).isLt; omega
theorem col_lt (y : S2560x6912.Idx) : (y 1).val / 768 < 9 := by have : (y 1).val < 6912 := (y 1).isLt; omega

/-- Where an index of the weights sits within its tile. -/
def inTile (y : S2560x6912.Idx) : S128x768.Idx := fun
  | ⟨0, _⟩ => ⟨(y 0).val % 128, Nat.mod_lt _ (by decide)⟩
  | ⟨1, _⟩ => ⟨(y 1).val % 768, Nat.mod_lt _ (by decide)⟩

/-- The dequantised weights, tile by tile. -/
def weights (x2 : Vec F S1280x6912 .i8) (x3 : Vec F S20x6912 .bf16) : Vec F S2560x6912 .bf16 := fun y =>
  tile x2 x3 ((y 0).val / 128) ((y 1).val / 768) (row_lt y) (col_lt y) (inTile y)

/-- The first `n` tiles of `d`, group by group, hold the weights `w`. -/
def UpTo (w : Vec F S2560x6912 .bf16) (n : ℕ) (d : Vec F S2560x6912 .bf16) : Prop :=
  ∀ y : S2560x6912.Idx, 9 * ((y 0).val / 128) + (y 1).val / 768 < n → d y = w y

theorem UpTo.all {w d : Vec F S2560x6912 .bf16} (h : UpTo w 180 d) : d = w :=
  funext fun y => h y (by have := row_lt y; have := col_lt y; omega)

/-- Storing the decoded tile of group `g` and column tile `k` over the tiles before it gives one tile more. -/
theorem UpTo.step {v : View sig .tc .vmem S2560x6912 .bf16} {x2 : Vec F S1280x6912 .i8} {x3 : Vec F S20x6912 .bf16} {g k : ℕ}
    (hg : g < 20) (hk : k < 9) {f : v.ty.Contents (Elt F)} (h : UpTo (weights x2 x3) (9 * g + k) (v.read (Elt F) f)) :
    UpTo (weights x2 x3) (9 * g + (k + 1))
      (v.read (Elt F) (v.writes (Elt F) f [⟨Rect.unit (s := S2560x6912) ![128 * g, tileCol k] S128x768.size (weights_inb g k hg hk), tile x2 x3 g k hg hk⟩])) := by
  intro y hy
  have h0 : (y 0).val < 2560 := (y 0).isLt
  have h1 : (y 1).val < 6912 := (y 1).isLt
  have hc := tileCol_eq k hk
  by_cases hin : (y 0).val / 128 = g ∧ (y 1).val / 768 = k
  · obtain ⟨rfl, rfl⟩ := hin
    refine View.read_writes_cons_unit_of_mem v f _ _ [] y (inTile y) rfl fun a => ?_
    fin_cases a
    · show (y 0).val = 128 * ((y 0).val / 128) + (y 0).val % 128; omega
    · show (y 1).val = tileCol ((y 1).val / 768) + (y 1).val % 768; rw [hc]; omega
  · have hr : v.read (Elt F) f y = weights x2 x3 y := h y (by omega)
    rw [← hr]
    by_cases hrow : (y 0).val / 128 = g
    · refine (View.read_writes_cons_unit_of_not_mem v f _ _ [] y rfl 1 ?_).trans rfl
      show (y 1).val < tileCol k ∨ tileCol k + 768 ≤ (y 1).val
      rw [hc]; omega
    · refine (View.read_writes_cons_unit_of_not_mem v f _ _ [] y rfl 0 ?_).trans rfl
      show (y 0).val < 128 * g ∨ 128 * g + 128 ≤ (y 0).val
      omega

/-- One trip of a decoding loop: load a tile of codes and a row of scales, store the decoded tile. -/
def tileBody (arg3 : Memref sig .tc .vmem S1280x6912 .i8) (arg4 : Memref sig .tc .vmem S20x6912 .bf16)
    (arg12 : Memref sig .tc .vmem S2560x6912 .bf16) (harg12 : arg12.IsWhole) (g k : ℕ) (hg : g < 20) (hk : k < 9)
    (hp : (Rect.unit (s := S2560x6912) ![128 * g, tileCol k] S128x768.size (weights_inb g k hg hk)).PackedRows (EltTy.packing .bf16)) :
    Prog (TpuEff nD τ sig (Elt F) Λ₀ .tc) Unit := do
  let v161 : Vec F S64x768 .i8 ← Prog.lift (.load arg3 (Rect.unit (s := S1280x6912) ![64 * g, tileCol k] S64x768.size (codes_inb g k hg hk)).toLoadRect (View.loadsAt_vmem h_S64x768))
  let v177 : Vec F S1x768 .bf16 ← Prog.lift (.load arg4 (Rect.unit (s := S20x6912) ![g, tileCol k] S1x768.size (scales_inb g k hg hk)).toLoadRect (View.loadsAt_vmem h_S1x768))
  let v181 : Vec F S128x768 .bf16 ← Prog.lift (.load arg12 (Rect.unit (s := S2560x6912) ![128 * g, tileCol k] S128x768.size (weights_inb g k hg hk)).toLoadRect (View.loadsAt_vmem h_S128x768))
  Prog.lift (.store arg12 (Rect.unit (s := S2560x6912) ![128 * g, tileCol k] S128x768.size (weights_inb g k hg hk)) (k0_pay3 v161 v177) Finset.univ (View.stores_vmem h_S128x768 (harg12.storeExact_slice rfl _ hp) (fun _ => rfl)) (.inl rfl))
  pure ⟨⟩

/-- The codes and the scales as given, and the scratch with its first `n` tiles decoded. -/
def decoded (c : Dev nD) (arg3 : Memref sig .tc .vmem S1280x6912 .i8) (arg4 : Memref sig .tc .vmem S20x6912 .bf16)
    (arg12 : Memref sig .tc .vmem S2560x6912 .bf16) (x2 : Vec F S1280x6912 .i8) (x3 : Vec F S20x6912 .bf16) (n : ℕ) : sProp 𝕄 :=
  iprop(owns (c : Thread nD τ) arg3 fullShare x2 ∗ owns (c : Thread nD τ) arg4 fullShare x3
    ∗ (∃ f, (arg12.view.loc (c : Thread nD τ) ↦[arg12.view.set]{fullShare} f) ∗ ⌜UpTo (weights x2 x3) n (arg12.view.read (Elt F) f)⌝))

theorem tileBody_run (c : Dev nD) (E : Set ℕ) (arg3 : Memref sig .tc .vmem S1280x6912 .i8) (harg3 : arg3.IsWhole)
    (arg4 : Memref sig .tc .vmem S20x6912 .bf16) (harg4 : arg4.IsWhole)
    (arg12 : Memref sig .tc .vmem S2560x6912 .bf16) (harg12 : arg12.IsWhole) (x2 : Vec F S1280x6912 .i8) (x3 : Vec F S20x6912 .bf16)
    (g k : ℕ) (hg : g < 20) (hk : k < 9) (hp) :
    decoded c arg3 arg4 arg12 x2 x3 (9 * g + k)
      ⊢ wp frame (wpE (defs₀ (F := F)) Variants.none c none) E (tileBody (F := F) arg3 arg4 arg12 harg12 g k hg hk hp)
          (fun _ => decoded c arg3 arg4 arg12 x2 x3 (9 * g + (k + 1))) := by
  have hc := tileCol_eq k hk
  unfold decoded owns tileBody
  iintro ⟨⟨%f2, %hf2, H2⟩, ⟨%f3, %hf3, H3⟩, ⟨%f, HW, %hf⟩⟩
  obtain rfl := harg3.eq_unread hf2; obtain rfl := harg4.eq_unread hf3
  sl_exec
  sl_step
  isplitl [H2]
  · iexists _; isplitr; · ipureintro; exact harg3.read_unread _
    iexact H2
  isplitl [H3]
  · iexists _; isplitr; · ipureintro; exact harg4.read_unread _
    iexact H3
  iexists _; isplitl [HW]; · iexact HW
  ipureintro
  have := UpTo.step (v := arg12.view) (x2 := x2) (x3 := x3) hg hk hf
  simpa only [tile, View.readAt_eq_ld, harg3.read_unread, harg4.read_unread] using this

end Cert.KernelIdeal.Hand

end
-- ==== Proof.KernelIdeal.Prologue.lean ====
/- The first point's prologue: the twenty decoding loops in sequence fill the scratch with the dequantised weights. -/
module

public import proofs.«01_k».proof.Proof.KernelIdeal.Weights

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- One decoding loop, of group `g`, at the head of a program: the rest runs with nine tiles more. -/
theorem loop_run (c : Dev nD) (E : Set ℕ) (arg3 : Memref sig .tc .vmem S1280x6912 .i8) (harg3 : arg3.IsWhole)
    (arg4 : Memref sig .tc .vmem S20x6912 .bf16) (harg4 : arg4.IsWhole)
    (arg12 : Memref sig .tc .vmem S2560x6912 .bf16) (harg12 : arg12.IsWhole) (x2 : Vec F S1280x6912 .i8) (x3 : Vec F S20x6912 .bf16)
    (g : ℕ) (hg : g < 20) (L : Scf.Loop 32) (hL : L.trips = 9) (hok : L.OK)
    (body : Fin L.trips → Unit → Prog (TpuEff nD τ sig (Elt F) Λ₀ .tc) Unit)
    (hbody : ∀ k, ∃ hp, body k ⟨⟩ = tileBody (F := F) arg3 arg4 arg12 harg12 g k.val hg (hL ▸ k.isLt) hp)
    {β : Type} {kk : Unit → Prog (TpuEff nD τ sig (Elt F) Λ₀ .tc) β} {Q : β → sProp 𝕄}
    (hk : decoded c arg3 arg4 arg12 x2 x3 (9 * g + 9) ⊢ wp frame (wpE (defs₀ (F := F)) Variants.none c none) E (kk ⟨⟩) Q) :
    decoded c arg3 arg4 arg12 x2 x3 (9 * g)
      ⊢ wp frame (wpE (defs₀ (F := F)) Variants.none c none) E (Scf.Loop.for L hok ⟨⟩ body >>= kk) Q := by
  refine (Scf.wp_for_bind (M := 𝕄) (kk := kk) (Q := Q) frame (wpE (defs₀ (F := F)) Variants.none c none) E L.lb L.ub L.st hok ⟨⟩ body
    (fun n _ => decoded c arg3 arg4 arg12 x2 x3 (9 * g + n)) (fun k acc => ?_)).trans ?_
  · obtain ⟨hp, hb⟩ := hbody k
    cases acc
    rw [hb]
    exact tileBody_run c E arg3 harg3 arg4 harg4 arg12 harg12 x2 x3 g k.val hg _ hp
  · have e : Scf.trips L.lb L.ub L.st = 9 := hL
    rw [e]
    iintro HW
    iapply HW
    iintro %acc H
    iapply hk; iexact H

variable (c : Dev nD) (E : Set ℕ) (i : grid0.Coords)
    (arg1 : Memref sig .tc .vmem S256x6912 .bf16) (harg1 : arg1.IsWhole)
    (arg2 : Memref sig .tc .vmem S256x2560 .bf16) (harg2 : arg2.IsWhole)
    (arg3 : Memref sig .tc .vmem S1280x6912 .i8) (harg3 : arg3.IsWhole)
    (arg4 : Memref sig .tc .vmem S20x6912 .bf16) (harg4 : arg4.IsWhole)
    (arg5 : Memref sig .tc .vmem S16x2560 .bf16) (harg5 : arg5.IsWhole)
    (arg6 : Memref sig .tc .vmem S16x6912 .bf16) (harg6 : arg6.IsWhole)
    (arg7 : Memref sig .tc .vmem S256x2560 .bf16) (harg7 : arg7.IsWhole)
    (arg8 : Memref sig .tc .vmem S16x2560 .f32) (harg8 : arg8.IsWhole)
    (arg9 : Memref sig .tc .vmem S16x6912 .f32) (harg9 : arg9.IsWhole)
    (arg10 : Memref sig .tc .vmem S1x16x256 .bf16) (harg10 : arg10.IsWhole)
    (arg11 : Memref sig .tc .vmem S1x16x256 .bf16) (harg11 : arg11.IsWhole)
    (arg12 : Memref sig .tc .vmem S2560x6912 .bf16) (harg12 : arg12.IsWhole)
    (x2 : Vec F S1280x6912 .i8) (x3 : Vec F S20x6912 .bf16)

/-- The first ten loops decode groups 0 to 9. -/
theorem part1_run (k0_h1 : k0_cond1 i = 1#1) :
    decoded c arg3 arg4 arg12 x2 x3 0
      ⊢ wp frame (wpE (defs₀ (F := F)) Variants.none c none) E (k0_part1 (F := F) i arg1 harg1 arg2 harg2 arg3 harg3 arg4 harg4 arg5 harg5 arg6 harg6 arg7 harg7 arg8 harg8 arg9 harg9 arg10 harg10 arg11 harg11 arg12 harg12 k0_h1)
          (fun _ => decoded c arg3 arg4 arg12 x2 x3 90) := by
  rw [k0_part1_eq_skeleton]; unfold k0_part1_skel
  refine loop_run c E arg3 harg3 arg4 harg4 arg12 harg12 x2 x3 0 (by decide) k0_t1_loop rfl _ _ (fun k => ⟨k0_off3_packedbf16 i k k0_h1, rfl⟩) ?_
  refine loop_run c E arg3 harg3 arg4 harg4 arg12 harg12 x2 x3 1 (by decide) k0_t2_loop rfl _ _ (fun k => ⟨k0_off6_packedbf16 i k k0_h1, rfl⟩) ?_
  refine loop_run c E arg3 harg3 arg4 harg4 arg12 harg12 x2 x3 2 (by decide) k0_t3_loop rfl _ _ (fun k => ⟨k0_off9_packedbf16 i k k0_h1, rfl⟩) ?_
  refine loop_run c E arg3 harg3 arg4 harg4 arg12 harg12 x2 x3 3 (by decide) k0_t4_loop rfl _ _ (fun k => ⟨k0_off12_packedbf16 i k k0_h1, rfl⟩) ?_
  refine loop_run c E arg3 harg3 arg4 harg4 arg12 harg12 x2 x3 4 (by decide) k0_t5_loop rfl _ _ (fun k => ⟨k0_off15_packedbf16 i k k0_h1, rfl⟩) ?_
  refine loop_run c E arg3 harg3 arg4 harg4 arg12 harg12 x2 x3 5 (by decide) k0_t6_loop rfl _ _ (fun k => ⟨k0_off18_packedbf16 i k k0_h1, rfl⟩) ?_
  refine loop_run c E arg3 harg3 arg4 harg4 arg12 harg12 x2 x3 6 (by decide) k0_t7_loop rfl _ _ (fun k => ⟨k0_off21_packedbf16 i k k0_h1, rfl⟩) ?_
  refine loop_run c E arg3 harg3 arg4 harg4 arg12 harg12 x2 x3 7 (by decide) k0_t8_loop rfl _ _ (fun k => ⟨k0_off24_packedbf16 i k k0_h1, rfl⟩) ?_
  refine loop_run c E arg3 harg3 arg4 harg4 arg12 harg12 x2 x3 8 (by decide) k0_t9_loop rfl _ _ (fun k => ⟨k0_off27_packedbf16 i k k0_h1, rfl⟩) ?_
  refine loop_run c E arg3 harg3 arg4 harg4 arg12 harg12 x2 x3 9 (by decide) k0_t10_loop rfl _ _ (fun k => ⟨k0_off30_packedbf16 i k k0_h1, rfl⟩) ?_
  iintro H; sl_step; iexact H

/-- The last ten loops decode groups 10 to 19. -/
theorem part2_run (k0_h1 : k0_cond1 i = 1#1) :
    decoded c arg3 arg4 arg12 x2 x3 90
      ⊢ wp frame (wpE (defs₀ (F := F)) Variants.none c none) E (k0_part2 (F := F) i arg1 harg1 arg2 harg2 arg3 harg3 arg4 harg4 arg5 harg5 arg6 harg6 arg7 harg7 arg8 harg8 arg9 harg9 arg10 harg10 arg11 harg11 arg12 harg12 k0_h1)
          (fun _ => decoded c arg3 arg4 arg12 x2 x3 180) := by
  rw [k0_part2_eq_skeleton]; unfold k0_part2_skel
  refine loop_run c E arg3 harg3 arg4 harg4 arg12 harg12 x2 x3 10 (by decide) k0_t11_loop rfl _ _ (fun k => ⟨k0_off33_packedbf16 i k k0_h1, rfl⟩) ?_
  refine loop_run c E arg3 harg3 arg4 harg4 arg12 harg12 x2 x3 11 (by decide) k0_t12_loop rfl _ _ (fun k => ⟨k0_off36_packedbf16 i k k0_h1, rfl⟩) ?_
  refine loop_run c E arg3 harg3 arg4 harg4 arg12 harg12 x2 x3 12 (by decide) k0_t13_loop rfl _ _ (fun k => ⟨k0_off39_packedbf16 i k k0_h1, rfl⟩) ?_
  refine loop_run c E arg3 harg3 arg4 harg4 arg12 harg12 x2 x3 13 (by decide) k0_t14_loop rfl _ _ (fun k => ⟨k0_off42_packedbf16 i k k0_h1, rfl⟩) ?_
  refine loop_run c E arg3 harg3 arg4 harg4 arg12 harg12 x2 x3 14 (by decide) k0_t15_loop rfl _ _ (fun k => ⟨k0_off45_packedbf16 i k k0_h1, rfl⟩) ?_
  refine loop_run c E arg3 harg3 arg4 harg4 arg12 harg12 x2 x3 15 (by decide) k0_t16_loop rfl _ _ (fun k => ⟨k0_off48_packedbf16 i k k0_h1, rfl⟩) ?_
  refine loop_run c E arg3 harg3 arg4 harg4 arg12 harg12 x2 x3 16 (by decide) k0_t17_loop rfl _ _ (fun k => ⟨k0_off51_packedbf16 i k k0_h1, rfl⟩) ?_
  refine loop_run c E arg3 harg3 arg4 harg4 arg12 harg12 x2 x3 17 (by decide) k0_t18_loop rfl _ _ (fun k => ⟨k0_off54_packedbf16 i k k0_h1, rfl⟩) ?_
  refine loop_run c E arg3 harg3 arg4 harg4 arg12 harg12 x2 x3 18 (by decide) k0_t19_loop rfl _ _ (fun k => ⟨k0_off57_packedbf16 i k k0_h1, rfl⟩) ?_
  refine loop_run c E arg3 harg3 arg4 harg4 arg12 harg12 x2 x3 19 (by decide) k0_t20_loop rfl _ _ (fun k => ⟨k0_off60_packedbf16 i k k0_h1, rfl⟩) ?_
  iintro H; sl_step; iexact H

/-- The whole prologue at the head of a program: the rest runs with the scratch at the dequantised weights, whatever it held. -/
theorem prologue_run (k0_h1 : k0_cond1 i = 1#1) (dw : Vec F S2560x6912 .bf16)
    {β : Type} {kk : PUnit → Prog (TpuEff nD τ sig (Elt F) Λ₀ .tc) β} {Q : β → sProp 𝕄} :
    iprop(owns (c : Thread nD τ) arg3 fullShare x2 ∗ owns (c : Thread nD τ) arg4 fullShare x3 ∗ owns (c : Thread nD τ) arg12 fullShare dw
        ∗ (iprop(owns (c : Thread nD τ) arg3 fullShare x2 ∗ owns (c : Thread nD τ) arg4 fullShare x3
            ∗ owns (c : Thread nD τ) arg12 fullShare (weights x2 x3)) -∗ wp frame (wpE (defs₀ (F := F)) Variants.none c none) E (kk ⟨⟩) Q))
      ⊢ wp frame (wpE (defs₀ (F := F)) Variants.none c none) E
          (k0_part1 (F := F) i arg1 harg1 arg2 harg2 arg3 harg3 arg4 harg4 arg5 harg5 arg6 harg6 arg7 harg7 arg8 harg8 arg9 harg9 arg10 harg10 arg11 harg11 arg12 harg12 k0_h1 >>= fun _ => k0_part2 (F := F) i arg1 harg1 arg2 harg2 arg3 harg3 arg4 harg4 arg5 harg5 arg6 harg6 arg7 harg7 arg8 harg8 arg9 harg9 arg10 harg10 arg11 harg11 arg12 harg12 k0_h1 >>= kk) Q := by
  rw [wp_bind]
  iintro ⟨H2, H3, HW, Hk⟩
  iapply (wp_wand_r frame (wpE (defs₀ (F := F)) Variants.none c none) E)
  isplitl [H2 H3 HW]
  · iapply (part1_run c E i arg1 harg1 arg2 harg2 arg3 harg3 arg4 harg4 arg5 harg5 arg6 harg6 arg7 harg7 arg8 harg8 arg9 harg9 arg10 harg10 arg11 harg11 arg12 harg12 x2 x3 k0_h1)
    unfold decoded
    isplitl [H2]; · iexact H2
    isplitl [H3]; · iexact H3
    unfold owns
    icases HW with ⟨%f, -, HW⟩
    iexists f; isplitl [HW]; · iexact HW
    ipureintro; intro y hy; omega
  · iintro %u HD
    rw [wp_bind]
    iapply (wp_wand_r frame (wpE (defs₀ (F := F)) Variants.none c none) E)
    isplitl [HD]
    · iapply (part2_run c E i arg1 harg1 arg2 harg2 arg3 harg3 arg4 harg4 arg5 harg5 arg6 harg6 arg7 harg7 arg8 harg8 arg9 harg9 arg10 harg10 arg11 harg11 arg12 harg12 x2 x3 k0_h1)
      iexact HD
    · iintro %u' HD
      iapply Hk
      unfold decoded
      icases HD with ⟨H2, H3, ⟨%f, HW, %hf⟩⟩
      isplitl [H2]; · iexact H2
      isplitl [H3]; · iexact H3
      unfold owns
      iexists f; isplitr; · ipureintro; exact hf.all
      iexact HW

end Cert.KernelIdeal.Hand

end
-- ==== Proof.KernelIdeal.Body.lean ====
/- One grid point of the kernel, run on any staging buffers: what each output's buffer and the scratch end up holding. -/
module

public import proofs.«01_k».proof.Proof.KernelIdeal.Prologue
public import Idealize.ShloMosaic.Lib.Pipeline.Value
public import Idealize.ShloMosaic.Lib.Pipeline.ValueKit
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-! ## The block of `dx` a point stores: ten column tiles -/

theorem aCols_inb (j : ℕ) (hj : j < 10) : ∀ a, (![0, 256 * j] : Fin 2 → ℕ) a + S16x256.size a ≤ S16x2560.size a := by
  intro a; fin_cases a
  · show 0 + 16 ≤ 16; omega
  · show 256 * j + 256 ≤ 2560; omega

theorem wRows_inb (j : ℕ) (hj : j < 10) : ∀ a, (![256 * j, 0] : Fin 2 → ℕ) a + S256x6912.size a ≤ S2560x6912.size a := by
  intro a; fin_cases a
  · show 256 * j + 256 ≤ 2560; omega
  · show 0 + 6912 ≤ 6912; omega

/-- Column tile `j` of the block: the base product with rows `256 j …` of the weights plus the adapter's product with the
    same columns of `aᵀ`. -/
def dxTile (x0 : Vec F S256x6912 .bf16) (x4 : Vec F S16x2560 .bf16) (x5 : Vec F S16x6912 .bf16) (w : Vec F S2560x6912 .bf16)
    (j : ℕ) (hj : j < 10) : FVec F S256x256 .bf16 :=
  k0_pay34 (k0_pay25 x0) (k0_pay27 x0 x5)
    (View.ld x4 (Rect.unit (s := S16x2560) ![0, 256 * j] S16x256.size (aCols_inb j hj)))
    (View.ld w (Rect.unit (s := S2560x6912) ![256 * j, 0] S256x6912.size (wRows_inb j hj)))

theorem dxCol_lt (y : S256x2560.Idx) : (y 1).val / 256 < 10 := by have : (y 1).val < 2560 := (y 1).isLt; omega

/-- Where an index of the block sits within its column tile. -/
def inDxTile (y : S256x2560.Idx) : S256x256.Idx := fun
  | ⟨0, _⟩ => ⟨(y 0).val, (y 0).isLt⟩
  | ⟨1, _⟩ => ⟨(y 1).val % 256, Nat.mod_lt _ (by decide)⟩

/-- The block of `dx`, tile by tile. -/
def dxBlk (x0 : Vec F S256x6912 .bf16) (x4 : Vec F S16x2560 .bf16) (x5 : Vec F S16x6912 .bf16) (w : Vec F S2560x6912 .bf16) :
    Vec F S256x2560 .bf16 := fun y => dxTile x0 x4 x5 w ((y 1).val / 256) (dxCol_lt y) (inDxTile y)

/-- Each stored tile agrees with the block at the indices under it. -/
theorem dxBlk_tile (x0 : Vec F S256x6912 .bf16) (x4 : Vec F S16x2560 .bf16) (x5 : Vec F S16x6912 .bf16) (w : Vec F S2560x6912 .bf16)
    (j : ℕ) (hj : j < 10) (o : ℕ) (ho : o = 256 * j) (inb : ∀ a, (![0, o] : Fin 2 → ℕ) a + S256x256.size a ≤ S256x2560.size a)
    (x : S256x256.Idx) :
    dxTile x0 x4 x5 w j hj x = dxBlk x0 x4 x5 w ((Rect.unit (s := S256x2560) ![0, o] S256x256.size inb).idx x) := by
  have e0 : (((Rect.unit (s := S256x2560) ![0, o] S256x256.size inb).idx x) 0).val = (x 0).val := by
    show 0 + 1 * (x 0).val = (x 0).val; omega
  have e1 : (((Rect.unit (s := S256x2560) ![0, o] S256x256.size inb).idx x) 1).val = o + (x 1).val := by
    show o + 1 * (x 1).val = o + (x 1).val; omega
  have hx : (x 1).val < 256 := (x 1).isLt
  have hq : (((Rect.unit (s := S256x2560) ![0, o] S256x256.size inb).idx x) 1).val / 256 = j := by rw [e1, ho]; omega
  have hi : inDxTile ((Rect.unit (s := S256x2560) ![0, o] S256x256.size inb).idx x) = x := by
    funext a; fin_cases a
    · exact Fin.ext e0
    · refine Fin.ext ?_
      show (((Rect.unit (s := S256x2560) ![0, o] S256x256.size inb).idx x) 1).val % 256 = _
      rw [e1, ho]; show (256 * j + (x 1).val) % 256 = (x 1).val; omega
  unfold dxBlk
  rw [hi]; congr 1; simp only [hq]

/-! ## The run -/

/-- A load of a whole buffer reads its contents. -/
theorem load_whole {S : Shape} {e : EltTy} {m : Memref sig .tc .vmem S e} (hm : m.IsWhole) (x : Vec F S e) {off : Fin S.rank → ℕ}
    (inb : ∀ a, off a + S.size a ≤ S.size a) :
    View.readAt (Elt F) m.view (Rect.unit off S.size inb).toLoadRect (hm.unread x) = x :=
  (View.readAt_full m.view _ inb).trans (hm.read_unread x)

/-- The tile a run stores at column `256 * j`, from the buffers' contents. -/
theorem dxTile_run {arg1 : Memref sig .tc .vmem S256x6912 .bf16} (harg1 : arg1.IsWhole) {arg5 : Memref sig .tc .vmem S16x2560 .bf16}
    (harg5 : arg5.IsWhole) {arg6 : Memref sig .tc .vmem S16x6912 .bf16} (harg6 : arg6.IsWhole)
    {arg12 : Memref sig .tc .vmem S2560x6912 .bf16} (harg12 : arg12.IsWhole)
    (x0 : Vec F S256x6912 .bf16) (x4 : Vec F S16x2560 .bf16) (x5 : Vec F S16x6912 .bf16) (w : Vec F S2560x6912 .bf16)
    (j : ℕ) (hj : j < 10) (inb1 inb1' : ∀ a, (![0, 0] : Fin 2 → ℕ) a + S256x6912.size a ≤ S256x6912.size a)
    (inb6 : ∀ a, (![0, 0] : Fin 2 → ℕ) a + S16x6912.size a ≤ S16x6912.size a) :
    k0_pay34 (k0_pay25 (View.readAt (Elt F) arg1.view (Rect.unit (s := S256x6912) ![0, 0] S256x6912.size inb1).toLoadRect (harg1.unread x0)))
        (k0_pay27 (View.readAt (Elt F) arg1.view (Rect.unit (s := S256x6912) ![0, 0] S256x6912.size inb1').toLoadRect (harg1.unread x0))
          (View.readAt (Elt F) arg6.view (Rect.unit (s := S16x6912) ![0, 0] S16x6912.size inb6).toLoadRect (harg6.unread x5)))
        (View.readAt (Elt F) arg5.view (Rect.unit (s := S16x2560) ![0, 256 * j] S16x256.size (aCols_inb j hj)).toLoadRect (harg5.unread x4))
        (View.readAt (Elt F) arg12.view (Rect.unit (s := S2560x6912) ![256 * j, 0] S256x6912.size (wRows_inb j hj)).toLoadRect (harg12.unread w))
      = dxTile x0 x4 x5 w j hj := by
  rw [load_whole harg1, load_whole harg6, View.readAt_eq_ld, View.readAt_eq_ld, harg5.read_unread, harg12.read_unread]
  rfl

/-- The block read back after the ten tile stores, whatever the buffer held before. -/
theorem dxBlk_read (v : View sig .tc .vmem S256x2560 .bf16) (f : v.ty.Contents (Elt F)) (x0 : Vec F S256x6912 .bf16)
    (x4 : Vec F S16x2560 .bf16) (x5 : Vec F S16x6912 .bf16) (w : Vec F S2560x6912 .bf16) (L : List (View.Piece (Elt F) S256x2560 .bf16))
    (hcov : View.Piece.tiledL L S256x256.size = true) (hL : ∀ p ∈ L, ∀ x, p.2 x = dxBlk x0 x4 x5 w (p.1.emb x)) :
    v.read (Elt F) (v.writes (Elt F) f L) = dxBlk x0 x4 x5 w :=
  (View.read_writes_eq_canon v f L (View.cover_of_tiledL L _ hcov)).trans
    (funext fun y => View.canon_apply_of_pieces _ L hL y (View.cover_of_tiledL L _ hcov y))

variable (c : Dev nD) (E : Set ℕ) (i : grid0.Coords)
    (arg1 : Memref sig .tc .vmem S256x6912 .bf16) (harg1 : arg1.IsWhole)
    (arg2 : Memref sig .tc .vmem S256x2560 .bf16) (harg2 : arg2.IsWhole)
    (arg3 : Memref sig .tc .vmem S1280x6912 .i8) (harg3 : arg3.IsWhole)
    (arg4 : Memref sig .tc .vmem S20x6912 .bf16) (harg4 : arg4.IsWhole)
    (arg5 : Memref sig .tc .vmem S16x2560 .bf16) (harg5 : arg5.IsWhole)
    (arg6 : Memref sig .tc .vmem S16x6912 .bf16) (harg6 : arg6.IsWhole)
    (arg7 : Memref sig .tc .vmem S256x2560 .bf16) (harg7 : arg7.IsWhole)
    (arg8 : Memref sig .tc .vmem S16x2560 .f32) (harg8 : arg8.IsWhole)
    (arg9 : Memref sig .tc .vmem S16x6912 .f32) (harg9 : arg9.IsWhole)
    (arg10 : Memref sig .tc .vmem S1x16x256 .bf16) (harg10 : arg10.IsWhole)
    (arg11 : Memref sig .tc .vmem S1x16x256 .bf16) (harg11 : arg11.IsWhole)
    (arg12 : Memref sig .tc .vmem S2560x6912 .bf16) (harg12 : arg12.IsWhole)
    (x0 : Vec F S256x6912 .bf16) (x1 : Vec F S256x2560 .bf16) (x2 : Vec F S1280x6912 .i8) (x3 : Vec F S20x6912 .bf16)
    (x4 : Vec F S16x2560 .bf16) (x5 : Vec F S16x6912 .bf16) (x7 d7 : Vec F S16x2560 .f32) (x8 d8 : Vec F S16x6912 .f32)
    (w dw : Vec F S2560x6912 .bf16)

set_option maxHeartbeats 4000000 in
/-- What one point of the kernel does. It starts with the two accumulators at `d7` and `d8` and the scratch at `dw`; at the first
    point these are replaced by zeros, zeros and the dequantised weights, at the others they are kept (`x7`, `x8`, `w`). -/
theorem body_run (hA : k0_cond1 i = 1#1 → x7 = k0_pay23 ∧ x8 = k0_pay24 ∧ w = weights x2 x3)
    (hB : ¬k0_cond1 i = 1#1 → d7 = x7 ∧ d8 = x8 ∧ dw = w) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare d7 ∗ owns (c : Thread nD τ) arg9 fullShare d8 ∗ (∃ d, owns (c : Thread nD τ) arg10 fullShare d) ∗ (∃ d, owns (c : Thread nD τ) arg11 fullShare d) ∗ owns (c : Thread nD τ) arg12 fullShare dw
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (dxBlk x0 x4 x5 w) ∗ owns (c : Thread nD τ) arg8 fullShare (k0_pay31 x0 x1 x5 x7)
            ∗ owns (c : Thread nD τ) arg9 fullShare (k0_pay33 (k0_pay25 x0) (k0_pay28 x1 x4) (k0_pay32 x8))
            ∗ owns (c : Thread nD τ) arg10 fullShare (k0_pay29 x0 x5) ∗ owns (c : Thread nD τ) arg11 fullShare (k0_pay30 x1 x4) ∗ owns (c : Thread nD τ) arg12 fullShare w) -∗ K ⟨⟩))
      ⊢ wp frame (wpE (defs₀ (F := F)) Variants.none c none) E (cc0_qlora_bwd (F := F) i arg1 harg1 arg2 harg2 arg3 harg3 arg4 harg4 arg5 harg5 arg6 harg6 arg7 harg7 arg8 harg8 arg9 harg9 arg10 harg10 arg11 harg11 arg12 harg12) K := by
  rw [cc0_qlora_bwd_eq_skeleton]; unfold cc0_qlora_bwd_skel
  rw [k0_part3_eq_skeleton]; unfold k0_part3_skel
  rw [wp_bind]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hf7; obtain rfl := harg9.eq_unread hf8; obtain rfl := harg12.eq_unread hfs0
  simp only [k0_part4_eq_skeleton, k0_part5_eq_skeleton, k0_part6_eq_skeleton]
  split
  · next hc =>
    obtain ⟨rfl, rfl, rfl⟩ := hA hc
    iapply (prologue_run c E i arg1 harg1 arg2 harg2 arg3 harg3 arg4 harg4 arg5 harg5 arg6 harg6 arg7 harg7 arg8 harg8 arg9 harg9 arg10 harg10 arg11 harg11 arg12 harg12 x2 x3 hc dw)
    isplitl [H2]
    · unfold owns; iexists _; isplitr; · ipureintro; exact harg3.read_unread _
      iexact H2
    isplitl [H3]
    · unfold owns; iexists _; isplitr; · ipureintro; exact harg4.read_unread _
      iexact H3
    isplitl [HS0]
    · unfold owns; iexists _; isplitr; · ipureintro; exact harg12.read_unread _
      iexact HS0
    unfold owns
    iintro ⟨⟨%f2, %hf2, H2⟩, ⟨%f3, %hf3, H3⟩, ⟨%fs0, %hfs0, HS0⟩⟩
    obtain rfl := harg3.eq_unread hf2; obtain rfl := harg4.eq_unread hf3; obtain rfl := harg12.eq_unread hfs0
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr
      swap; · iexact H6
      ipureintro
      refine dxBlk_read _ _ _ _ _ _ _ ?_ ?_
      · rfl
      · simp only [List.forall_mem_cons, List.not_mem_nil, false_imp_iff, implies_true, _root_.and_true]
        refine ⟨?_, ?_, ?_, ?_, ?_, ?_, ?_, ?_, ?_, ?_⟩
        · exact fun x => (congrFun (dxTile_run harg1 harg5 harg6 harg12 x0 x4 x5 (weights x2 x3) 9 (by decide) _ _ _) x).trans (dxBlk_tile x0 x4 x5 (weights x2 x3) 9 (by decide) 2304 rfl _ x)
        · exact fun x => (congrFun (dxTile_run harg1 harg5 harg6 harg12 x0 x4 x5 (weights x2 x3) 8 (by decide) _ _ _) x).trans (dxBlk_tile x0 x4 x5 (weights x2 x3) 8 (by decide) 2048 rfl _ x)
        · exact fun x => (congrFun (dxTile_run harg1 harg5 harg6 harg12 x0 x4 x5 (weights x2 x3) 7 (by decide) _ _ _) x).trans (dxBlk_tile x0 x4 x5 (weights x2 x3) 7 (by decide) 1792 rfl _ x)
        · exact fun x => (congrFun (dxTile_run harg1 harg5 harg6 harg12 x0 x4 x5 (weights x2 x3) 6 (by decide) _ _ _) x).trans (dxBlk_tile x0 x4 x5 (weights x2 x3) 6 (by decide) 1536 rfl _ x)
        · exact fun x => (congrFun (dxTile_run harg1 harg5 harg6 harg12 x0 x4 x5 (weights x2 x3) 5 (by decide) _ _ _) x).trans (dxBlk_tile x0 x4 x5 (weights x2 x3) 5 (by decide) 1280 rfl _ x)
        · exact fun x => (congrFun (dxTile_run harg1 harg5 harg6 harg12 x0 x4 x5 (weights x2 x3) 4 (by decide) _ _ _) x).trans (dxBlk_tile x0 x4 x5 (weights x2 x3) 4 (by decide) 1024 rfl _ x)
        · exact fun x => (congrFun (dxTile_run harg1 harg5 harg6 harg12 x0 x4 x5 (weights x2 x3) 3 (by decide) _ _ _) x).trans (dxBlk_tile x0 x4 x5 (weights x2 x3) 3 (by decide) 768 rfl _ x)
        · exact fun x => (congrFun (dxTile_run harg1 harg5 harg6 harg12 x0 x4 x5 (weights x2 x3) 2 (by decide) _ _ _) x).trans (dxBlk_tile x0 x4 x5 (weights x2 x3) 2 (by decide) 512 rfl _ x)
        · exact fun x => (congrFun (dxTile_run harg1 harg5 harg6 harg12 x0 x4 x5 (weights x2 x3) 1 (by decide) _ _ _) x).trans (dxBlk_tile x0 x4 x5 (weights x2 x3) 1 (by decide) 256 rfl _ x)
        · exact fun x => (congrFun (dxTile_run harg1 harg5 harg6 harg12 x0 x4 x5 (weights x2 x3) 0 (by decide) _ _ _) x).trans (dxBlk_tile x0 x4 x5 (weights x2 x3) 0 (by decide) 0 rfl _ x)
    isplitl [H7]
    · iexists _; isplitr
      swap; · iexact H7
      ipureintro
      refine (View.read_writes_full _ _ _ _ _).trans ?_
      exact congr (congr (congrArg₂ k0_pay31 (load_whole harg1 x0 _) (load_whole harg2 x1 _)) (load_whole harg6 x5 _)) (View.readCov_full _ _ _ _ _)
    isplitl [H8]
    · iexists _; isplitr
      swap; · iexact H8
      ipureintro
      refine (View.read_writes_full _ _ _ _ _).trans ?_
      exact congr (congrArg₂ k0_pay33 (congrArg k0_pay25 (load_whole harg1 x0 _)) (congrArg₂ k0_pay28 (load_whole harg2 x1 _) (load_whole harg5 x4 _))) (congrArg k0_pay32 (View.readCov_full _ _ _ _ _))
    isplitl [H9]
    · iexists _; isplitr
      swap; · iexact H9
      ipureintro
      refine (View.read_writes_full _ _ _ _ _).trans ?_
      exact congrArg₂ k0_pay29 (load_whole harg1 x0 _) (load_whole harg6 x5 _)
    isplitl [H10]
    · iexists _; isplitr
      swap; · iexact H10
      ipureintro
      refine (View.read_writes_full _ _ _ _ _).trans ?_
      exact congrArg₂ k0_pay30 (load_whole harg2 x1 _) (load_whole harg5 x4 _)
    iexists _; isplitr; · ipureintro; exact harg12.read_unread _
    iexact HS0
  · next hc =>
    obtain ⟨rfl, rfl, rfl⟩ := hB hc
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr
      swap; · iexact H6
      ipureintro
      refine dxBlk_read _ _ _ _ _ _ _ ?_ ?_
      · rfl
      · simp only [List.forall_mem_cons, List.not_mem_nil, false_imp_iff, implies_true, _root_.and_true]
        refine ⟨?_, ?_, ?_, ?_, ?_, ?_, ?_, ?_, ?_, ?_⟩
        · exact fun x => (congrFun (dxTile_run harg1 harg5 harg6 harg12 x0 x4 x5 dw 9 (by decide) _ _ _) x).trans (dxBlk_tile x0 x4 x5 dw 9 (by decide) 2304 rfl _ x)
        · exact fun x => (congrFun (dxTile_run harg1 harg5 harg6 harg12 x0 x4 x5 dw 8 (by decide) _ _ _) x).trans (dxBlk_tile x0 x4 x5 dw 8 (by decide) 2048 rfl _ x)
        · exact fun x => (congrFun (dxTile_run harg1 harg5 harg6 harg12 x0 x4 x5 dw 7 (by decide) _ _ _) x).trans (dxBlk_tile x0 x4 x5 dw 7 (by decide) 1792 rfl _ x)
        · exact fun x => (congrFun (dxTile_run harg1 harg5 harg6 harg12 x0 x4 x5 dw 6 (by decide) _ _ _) x).trans (dxBlk_tile x0 x4 x5 dw 6 (by decide) 1536 rfl _ x)
        · exact fun x => (congrFun (dxTile_run harg1 harg5 harg6 harg12 x0 x4 x5 dw 5 (by decide) _ _ _) x).trans (dxBlk_tile x0 x4 x5 dw 5 (by decide) 1280 rfl _ x)
        · exact fun x => (congrFun (dxTile_run harg1 harg5 harg6 harg12 x0 x4 x5 dw 4 (by decide) _ _ _) x).trans (dxBlk_tile x0 x4 x5 dw 4 (by decide) 1024 rfl _ x)
        · exact fun x => (congrFun (dxTile_run harg1 harg5 harg6 harg12 x0 x4 x5 dw 3 (by decide) _ _ _) x).trans (dxBlk_tile x0 x4 x5 dw 3 (by decide) 768 rfl _ x)
        · exact fun x => (congrFun (dxTile_run harg1 harg5 harg6 harg12 x0 x4 x5 dw 2 (by decide) _ _ _) x).trans (dxBlk_tile x0 x4 x5 dw 2 (by decide) 512 rfl _ x)
        · exact fun x => (congrFun (dxTile_run harg1 harg5 harg6 harg12 x0 x4 x5 dw 1 (by decide) _ _ _) x).trans (dxBlk_tile x0 x4 x5 dw 1 (by decide) 256 rfl _ x)
        · exact fun x => (congrFun (dxTile_run harg1 harg5 harg6 harg12 x0 x4 x5 dw 0 (by decide) _ _ _) x).trans (dxBlk_tile x0 x4 x5 dw 0 (by decide) 0 rfl _ x)
    isplitl [H7]
    · iexists _; isplitr
      swap; · iexact H7
      ipureintro
      refine (View.read_writes_full _ _ _ _ _).trans ?_
      exact congr (congr (congrArg₂ k0_pay31 (load_whole harg1 x0 _) (load_whole harg2 x1 _)) (load_whole harg6 x5 _)) (load_whole harg8 _ _)
    isplitl [H8]
    · iexists _; isplitr
      swap; · iexact H8
      ipureintro
      refine (View.read_writes_full _ _ _ _ _).trans ?_
      exact congr (congrArg₂ k0_pay33 (congrArg k0_pay25 (load_whole harg1 x0 _)) (congrArg₂ k0_pay28 (load_whole harg2 x1 _) (load_whole harg5 x4 _))) (congrArg k0_pay32 (load_whole harg9 _ _))
    isplitl [H9]
    · iexists _; isplitr
      swap; · iexact H9
      ipureintro
      refine (View.read_writes_full _ _ _ _ _).trans ?_
      exact congrArg₂ k0_pay29 (load_whole harg1 x0 _) (load_whole harg6 x5 _)
    isplitl [H10]
    · iexists _; isplitr
      swap; · iexact H10
      ipureintro
      refine (View.read_writes_full _ _ _ _ _).trans ?_
      exact congrArg₂ k0_pay30 (load_whole harg2 x1 _) (load_whole harg5 x4 _)
    iexists _; isplitr; · ipureintro; exact harg12.read_unread _
    iexact HS0

end Cert.KernelIdeal.Hand

end
-- ==== Proof.KernelIdeal.Run.lean ====
/- The kernel's frame: what each output's staging buffer holds after each grid point, the pipeline's proof data, the
   body's obligation at every point, the run of `main`, and the frame claim. The accumulators of outputs 7 and 8 are carried
   from point to point, and the scratch holds the dequantised weights from the first point on. -/
module

public import proofs.«01_k».proof.Proof.KernelIdeal.Body
public import proofs.«01_k».proof.Proof.Gen.KernelIdeal.Launch
public import proofs.«01_k».proof.Proof.Gen.KernelIdeal.Points
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`). -/
abbrev cond0_0 (i : grid0.Coords) : Prop := k0_cond1 i = 1#1
/-- It holds at the first point only — by arithmetic of the point. -/
theorem hcond0_0 : ∀ t : Fin cfg0.N, cond0_0 (grid0.coords t) ↔ t.val % 96 = 0 :=
  (fun t => by
    have ht : t.val < 96 := Nat.lt_of_lt_of_eq t.isLt N_0
    have e0 : (grid0.coords t 0).val = t.val / 1 % 96 := Pipeline.Grid.coords_val t 0 (by decide) rfl
    simp only [cond0_0, k0_cond1, e0]
    word_cmp
   : ∀ t : Fin grid0.N, cond0_0 (grid0.coords t) ↔ t.val % 96 = 0)

/-! ## The staging buffers and the scratch -/

/-- Each window's current staging memref at point `t`, spelled as the pipeline passes it (`bodyAt0`), and its wholeness. -/
abbrev ms0_0 (t : Fin cfg0.N) : Memref sig .tc .vmem S256x6912 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2560 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x6912 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S20x6912 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x2560 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x6912 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2560 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x2560 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x6912 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x16x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x16x256 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2560x6912 .bf16 := Memref.whole cc0_scratch0
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What the buffers hold, point by point -/

/-- The grid's first point. -/
def pt0 : Fin cfg0.N := ⟨0, by rw [show cfg0.N = 96 from N_0]; decide⟩

/-- The scratch from the first point on: the dequantised weights. -/
def wAll (c : Dev nD) : Vec F S2560x6912 .bf16 := weights (iblk m c 2 pt0) (iblk m c 3 pt0)

/-- The first accumulator after point `n`. -/
def datAt (c : Dev nD) : (n : ℕ) → n < cfg0.N → Vec F S16x2560 .f32
  | 0, hn => k0_pay31 (iblk m c 0 ⟨0, hn⟩) (iblk m c 1 ⟨0, hn⟩) (iblk m c 5 ⟨0, hn⟩) k0_pay23
  | n + 1, hn => k0_pay31 (iblk m c 0 ⟨n + 1, hn⟩) (iblk m c 1 ⟨n + 1, hn⟩) (iblk m c 5 ⟨n + 1, hn⟩) (datAt c n (Nat.lt_of_succ_lt hn))

/-- The second accumulator after point `n`. -/
def dbAt (c : Dev nD) : (n : ℕ) → n < cfg0.N → Vec F S16x6912 .f32
  | 0, hn => k0_pay33 (k0_pay25 (iblk m c 0 ⟨0, hn⟩)) (k0_pay28 (iblk m c 1 ⟨0, hn⟩) (iblk m c 4 ⟨0, hn⟩)) (k0_pay32 k0_pay24)
  | n + 1, hn => k0_pay33 (k0_pay25 (iblk m c 0 ⟨n + 1, hn⟩)) (k0_pay28 (iblk m c 1 ⟨n + 1, hn⟩) (iblk m c 4 ⟨n + 1, hn⟩))
      (k0_pay32 (dbAt c n (Nat.lt_of_succ_lt hn)))

theorem datAt_zero (c : Dev nD) (t : Fin cfg0.N) (h : t.val = 0) :
    datAt m c t.val t.isLt = k0_pay31 (iblk m c 0 t) (iblk m c 1 t) (iblk m c 5 t) k0_pay23 := by
  obtain ⟨n, hn⟩ := t; obtain rfl : n = 0 := h; rfl

theorem datAt_pos (c : Dev nD) (t : Fin cfg0.N) (h : t.val ≠ 0) :
    datAt m c t.val t.isLt = k0_pay31 (iblk m c 0 t) (iblk m c 1 t) (iblk m c 5 t)
      (datAt m c (t.val - 1) (Nat.lt_of_le_of_lt (Nat.sub_le _ _) t.isLt)) := by
  obtain ⟨n, hn⟩ := t
  cases n with
  | zero => exact absurd rfl h
  | succ n => rfl

theorem dbAt_zero (c : Dev nD) (t : Fin cfg0.N) (h : t.val = 0) :
    dbAt m c t.val t.isLt = k0_pay33 (k0_pay25 (iblk m c 0 t)) (k0_pay28 (iblk m c 1 t) (iblk m c 4 t)) (k0_pay32 k0_pay24) := by
  obtain ⟨n, hn⟩ := t; obtain rfl : n = 0 := h; rfl

theorem dbAt_pos (c : Dev nD) (t : Fin cfg0.N) (h : t.val ≠ 0) :
    dbAt m c t.val t.isLt = k0_pay33 (k0_pay25 (iblk m c 0 t)) (k0_pay28 (iblk m c 1 t) (iblk m c 4 t))
      (k0_pay32 (dbAt m c (t.val - 1) (Nat.lt_of_le_of_lt (Nat.sub_le _ _) t.isLt))) := by
  obtain ⟨n, hn⟩ := t
  cases n with
  | zero => exact absurd rfl h
  | succ n => rfl

/-- The invariant before position `n`: at the first the scratch holds anything, afterwards the dequantised weights. -/
def PhiS (c : Dev nD) : (n : ℕ) → n ≤ cfg0.N → sProp 𝕄
  | 0, _ => Pipeline.ΦA spec0 c
  | _ + 1, _ => iprop(iprop(owns (c : Thread nD τ) scM0_0 fullShare (wAll m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (wAll m c)) ∗ (∃ r, prngReg c r)) := by
  cases n with
  | zero => exact absurd rfl hz
  | succ n => rfl

/-! ## The pipeline's proof data -/

/-- The proof data of the one pipeline on core `c`: each input's buffer at its block after the body, each output's at what
    the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dxBlk (iblk m c 0 t) (iblk m c 4 t) (iblk m c 5 t) (wAll m c)
    | ⟨7, _⟩ => datAt m c t.val t.isLt
    | ⟨8, _⟩ => dbAt m c t.val t.isLt
    | ⟨9, _⟩ => k0_pay29 (iblk m c 0 t) (iblk m c 5 t)
    | ⟨10, _⟩ => k0_pay30 (iblk m c 1 t) (iblk m c 4 t)
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dxBlk (iblk m c 0 t) (iblk m c 4 t) (iblk m c 5 t) (wAll m c) := by dsimp only [dats]
theorem after0_7 (c : Dev nD) (t : Fin cfg0.N) : (dats m 0 c).after 7 t = datAt m c t.val t.isLt := by dsimp only [dats]
theorem after0_8 (c : Dev nD) (t : Fin cfg0.N) : (dats m 0 c).after 8 t = dbAt m c t.val t.isLt := by dsimp only [dats]
theorem after0_9 (c : Dev nD) (t : Fin cfg0.N) : (dats m 0 c).after 9 t = k0_pay29 (iblk m c 0 t) (iblk m c 5 t) := by dsimp only [dats]
theorem after0_10 (c : Dev nD) (t : Fin cfg0.N) : (dats m 0 c).after 10 t = k0_pay30 (iblk m c 1 t) (iblk m c 4 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- After the first point output 7's staging buffer still holds what the body left at the point before. -/
theorem before0_7_pos (c : Dev nD) (t : Fin cfg0.N) (h0 : t.val ≠ 0) (d) :
    (dats m 0 c).before 7 t d = datAt m c (t.val - 1) (Nat.lt_of_le_of_lt (Nat.sub_le _ _) t.isLt) := by
  have hN : t.val < 96 := lt_of_lt_of_eq t.isLt (show cfg0.N = 96 from N_0)
  rw [Dat.before_out_kept _ 7 rfl t (by omega) (Bool.eq_false_iff.mpr fun h => by have := (flush0_7 _).mp h; dsimp only at this; omega)
    (fun _ => rfl) (fun _ _ => rfl)]
  dsimp only [dats]
/-- After the first point output 8's staging buffer still holds what the body left at the point before. -/
theorem before0_8_pos (c : Dev nD) (t : Fin cfg0.N) (h0 : t.val ≠ 0) (d) :
    (dats m 0 c).before 8 t d = dbAt m c (t.val - 1) (Nat.lt_of_le_of_lt (Nat.sub_le _ _) t.isLt) := by
  have hN : t.val < 96 := lt_of_lt_of_eq t.isLt (show cfg0.N = 96 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 4000000 in
/-- The body at any point: at the first it starts the accumulators and the scratch afresh, at the others it finds them as the
    point before left them (`body_run`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiS m c (t.val + 1) t.isLt from rfl, PhiS_pos m c _ _ (Nat.succ_ne_zero _)]
  have hN : t.val < 96 := lt_of_lt_of_eq t.isLt (show cfg0.N = 96 from N_0)
  by_cases hz : t.val = 0
  · have hc : k0_cond1 (grid0.coords t) = 1#1 := (hcond0_0 t).mpr (by omega)
    rw [PhiS_castSucc m c t, PhiS_zero m c _ _ hz, PhiA0_eq, datAt_zero m c t hz, dbAt_zero m c t hz]
    iintro ⟨⟨⟨%dw, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_run c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) k0_pay23 _ k0_pay24 _ (wAll m c) _
      (fun _ => ⟨rfl, rfl, by obtain rfl : t = pt0 := Fin.ext hz; rfl⟩) (fun h => absurd hc h))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexists _; iexact H9
    isplitl [H10]; · iexists _; iexact H10
    isplitl [HS0]; · iexact HS0
    iintro ⟨H0, H1, H2, H3, H4, H5, H6, H7, H8, H9, H10, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hc : ¬k0_cond1 (grid0.coords t) = 1#1 := fun h => by have := (hcond0_0 t).mp h; omega
    rw [PhiS_castSucc m c t, PhiS_pos m c _ _ hz, datAt_pos m c t hz, dbAt_pos m c t hz]
    simp only [before0_7_pos m c t hz, before0_8_pos m c t hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_run c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) _ _ _ _ (wAll m c) _
      (fun h => absurd h hc) (fun _ => ⟨rfl, rfl, rfl⟩))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexists _; iexact H9
    isplitl [H10]; · iexists _; iexact H10
    isplitl [HS0]; · iexact HS0
    iintro ⟨H0, H1, H2, H3, H4, H5, H6, H7, H8, H9, H10, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 96 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every run ends, the argument arrays end unchanged and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Hand

end
-- ==== Proof.Formulas.lean ====
/- The backward pass as formulas on extended reals, index by index: the low-rank gradients' inner products, the dequantised
   weights, and the five results. Both programs are shown to compute these. -/
module

public import Idealize.ShloMosaic.Lib.Pipeline.ValueKit

@[expose] public section

set_option maxRecDepth 16384

noncomputable section

namespace Cert.Formulas

open Idealize.ShloMosaic

variable (X : FVec Ideal ⟨3, ![24, 1024, 2560]⟩ .bf16) (G : FVec Ideal ⟨3, ![24, 1024, 6912]⟩ .bf16)
  (P : IVec ⟨2, ![1280, 6912]⟩ 8) (S : FVec Ideal ⟨2, ![20, 6912]⟩ .bf16)
  (A : FVec Ideal ⟨2, ![2560, 16]⟩ .bf16) (B : FVec Ideal ⟨2, ![16, 6912]⟩ .bf16)

/-- Row `t` of an array of 24 batches of 1024 rows. -/
def row {n : ℕ} (Y : FVec Ideal ⟨3, ![24, 1024, n]⟩ .bf16) (t : Fin 24576) (k : Fin n) : EReal :=
  Y (ix3 ⟨t.val / 1024, by omega⟩ ⟨t.val % 1024, by omega⟩ k)

/-- Row number `s` of batch `b`, counted over all batches. -/
def token (b : Fin 24) (s : Fin 1024) : Fin 24576 := ⟨b.val * 1024 + s.val, by omega⟩

/-- The output gradient's row `t` against row `r` of the second low-rank factor. -/
def gB (t : Fin 24576) (r : Fin 16) : EReal := ∑ n, row G t n * B (ix2 r n)

/-- The input's row `t` against column `r` of the first low-rank factor. -/
def xA (t : Fin 24576) (r : Fin 16) : EReal := ∑ d, row X t d * A (ix2 d r)

/-- Half `k` of a packed byte, a four-bit two's complement number: the low half for `k = 0`, the high half for `k = 1`. -/
def code (p : BitVec 8) (k : ℕ) : BitVec 32 := (p.extractLsb' (4 * k) 4).signExtend 32

/-- The dequantised weight of input feature `d` and output feature `n`: two consecutive features share a byte, 128 share a
    scale. -/
def weight (d : Fin 2560) (n : Fin 6912) : EReal :=
  FloatOps.sitofp (F := Ideal) .bf16 (code (P (ix2 ⟨d.val / 2, by omega⟩ n)) (d.val % 2)) * S (ix2 ⟨d.val / 128, by omega⟩ n)

/-- The input's gradient. -/
def dx (t : Fin 24576) (d : Fin 2560) : EReal := ∑ n, row G t n * weight P S d n + ∑ r, gB G B t r * A (ix2 d r)

/-- The gradient of the first low-rank factor. -/
def dA (d : Fin 2560) (r : Fin 16) : EReal := ∑ t, row X t d * gB G B t r

/-- The gradient of the second low-rank factor. -/
def dB (r : Fin 16) (n : Fin 6912) : EReal := ∑ t, xA X A t r * row G t n

/-- The scaling constant, 16 / 16, is one. -/
theorem scaling : Ideal.div (Ideal.ofBits FTy.f32 1098907648#32) (Ideal.ofBits FTy.f32 1098907648#32) = 1 := by
  have h : Ideal.ofBits FTy.f32 1098907648#32 = ((16 : ℝ) : EReal) := by
    simp [Ideal.ofBits, Ideal.ieee, -EReal.coe_mul]; norm_num
  rw [h, Ideal.div_coe (by norm_num), ← EReal.coe_mul]
  norm_num

end Cert.Formulas

end
-- ==== Proof.KernelIdeal.Blocks.lean ====
/- The blocks that the kernel's body reads, at extended reals: each element named as an element of an argument array. -/
module

public import proofs.«01_k».proof.Proof.KernelIdeal.Run
public import proofs.«01_k».proof.Proof.Formulas

@[expose] public section

set_option maxRecDepth 16384

noncomputable section

namespace Cert.KernelIdeal.Hand

open Idealize.ShloMosaic Idealize.ShloMosaic.TcCoe Idealize.SL.Sem
open Cert.KernelIdeal.Gen

variable (m : (ℓ : Loc nD τ sig) → Buf (Elt Ideal) ℓ)

/-- The argument arrays on core `c`. -/
abbrev argX (c : Dev nD) : FVec Ideal S24x1024x2560 .bf16 := m ((c.tc : Thread nD τ).loc main_arg0)
abbrev argG (c : Dev nD) : FVec Ideal S24x1024x6912 .bf16 := m ((c.tc : Thread nD τ).loc main_arg1)
abbrev argP (c : Dev nD) : IVec S1280x6912 8 := m ((c.tc : Thread nD τ).loc main_arg2)
abbrev argS (c : Dev nD) : FVec Ideal S20x6912 .bf16 := m ((c.tc : Thread nD τ).loc main_arg3)
abbrev argA (c : Dev nD) : FVec Ideal S2560x16 .bf16 := m ((c.tc : Thread nD τ).loc main_arg4)
abbrev argB (c : Dev nD) : FVec Ideal S16x6912 .bf16 := m ((c.tc : Thread nD τ).loc main_arg5)

/-! ## The arrays at the region's entry -/

theorem V_v0 (c : Dev nD) : V m c main_v0 = shapeCast S24576x6912 (argG m c) shapeCasts_S24x1024x6912_S24576x6912 := by
  show StableHlo.after hostOps0 (fun b => m (c, b)) _ = _
  after_results_simp <;> rfl

theorem V_v1 (c : Dev nD) : V m c main_v1 = shapeCast S24576x2560 (argX m c) shapeCasts_S24x1024x2560_S24576x2560 := by
  show StableHlo.after hostOps0 (fun b => m (c, b)) _ = _
  after_results_simp <;> rfl

theorem V_v2 (c : Dev nD) : V m c main_v2 = transpose S16x2560 [1, 0] (argA m c) transposes_S2560x16_S16x2560_1_0 := by
  show StableHlo.after hostOps0 (fun b => m (c, b)) _ = _
  after_results_simp <;> rfl

/-! ## Which block each window is on -/

/-- Point `t` of the grid reads and writes row block `t`; the small arrays are one block; the two transposed results have
    four blocks a batch. -/
theorem index_eq : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0]
    ∧ win0_7.index t = ![0, 0] ∧ win0_8.index t = ![0, 0] ∧ win0_9.index t = ![t.val / 4, 0, t.val % 4]
    ∧ win0_10.index t = ![t.val / 4, 0, t.val % 4] := by
  decide +kernel

theorem pt_lt (t : Fin cfg0.N) : t.val < 96 := lt_of_lt_of_eq t.isLt (show cfg0.N = 96 from N_0)

/-- Row `r` of block `t`, counted over all blocks. -/
def rowOf (t : Fin cfg0.N) (r : Fin 256) : Fin 24576 := ⟨t.val * 256 + r.val, by have := pt_lt t; omega⟩

/-! ## The blocks -/

theorem blk0 (c : Dev nD) (t : Fin cfg0.N) (r : Fin 256) (n : Fin 6912) :
    iblk m c 0 t (ix2 r n) = Formulas.row (argG m c) (rowOf t r) n := by
  have ht := pt_lt t
  blk_simp [iblk]
  rw [V_v0]
  pointwise [Formulas.row, rowOf]
  blk_ext [(index_eq t).1]

theorem blk1 (c : Dev nD) (t : Fin cfg0.N) (r : Fin 256) (d : Fin 2560) :
    iblk m c 1 t (ix2 r d) = Formulas.row (argX m c) (rowOf t r) d := by
  have ht := pt_lt t
  blk_simp [iblk]
  rw [V_v1]
  pointwise [Formulas.row, rowOf]
  blk_ext [(index_eq t).2.1]

theorem blk2 (c : Dev nD) (t : Fin cfg0.N) (j : Fin 1280) (n : Fin 6912) : iblk m c 2 t (ix2 j n) = argP m c (ix2 j n) := by
  blk_ext [iblk, V_main_arg2, (index_eq t).2.2.1]

theorem blk3 (c : Dev nD) (t : Fin cfg0.N) (j : Fin 20) (n : Fin 6912) : iblk m c 3 t (ix2 j n) = argS m c (ix2 j n) := by
  blk_ext [iblk, V_main_arg3, (index_eq t).2.2.2.1]

theorem blk4 (c : Dev nD) (t : Fin cfg0.N) (r : Fin 16) (d : Fin 2560) : iblk m c 4 t (ix2 r d) = argA m c (ix2 d r) := by
  blk_simp [iblk]
  rw [V_v2]
  pointwise
  blk_ext [(index_eq t).2.2.2.2.1]

theorem blk5 (c : Dev nD) (t : Fin cfg0.N) (r : Fin 16) (n : Fin 6912) : iblk m c 5 t (ix2 r n) = argB m c (ix2 r n) := by
  blk_ext [iblk, V_main_arg5, (index_eq t).2.2.2.2.2.1]

end Cert.KernelIdeal.Hand

end
-- ==== Proof.KernelIdeal.Payloads.lean ====
/- What the body computes from its blocks, read at an index at extended reals. -/
module

public import proofs.«01_k».proof.Proof.KernelIdeal.Body
public import proofs.«01_k».proof.Proof.Formulas

@[expose] public section

set_option maxRecDepth 16384

noncomputable section

namespace Cert.KernelIdeal.Hand

open Idealize.ShloMosaic Idealize.ShloMosaic.TcCoe Idealize.SL.Sem
open Cert.KernelIdeal.Gen

variable (x0 : Vec Ideal S256x6912 .bf16) (x1 : Vec Ideal S256x2560 .bf16) (x4 : Vec Ideal S16x2560 .bf16) (x5 : Vec Ideal S16x6912 .bf16)

/-- The second factor's row `r` against the gradient block's row `k`. -/
theorem gt_apply (r : Fin 16) (k : Fin 256) : k0_pay27 x0 x5 (ix2 r k) = ∑ n, x0 (ix2 k n) * x5 (ix2 r n) := by
  pointwise [k0_pay27, k0_pay25]
  exact Finset.sum_congr rfl fun n _ => mul_comm _ _

theorem xat_apply (r : Fin 16) (k : Fin 256) : k0_pay28 x1 x4 (ix2 r k) = ∑ d, x1 (ix2 k d) * x4 (ix2 r d) := by
  pointwise [k0_pay28, k0_pay26]
  exact Finset.sum_congr rfl fun d _ => mul_comm _ _

theorem gt_out_apply (z : Fin 1) (r : Fin 16) (k : Fin 256) : k0_pay29 x0 x5 (ix3 z r k) = ∑ n, x0 (ix2 k n) * x5 (ix2 r n) := by
  pointwise [k0_pay29]
  exact gt_apply _ _ _ _

theorem xat_out_apply (z : Fin 1) (r : Fin 16) (k : Fin 256) : k0_pay30 x1 x4 (ix3 z r k) = ∑ d, x1 (ix2 k d) * x4 (ix2 r d) := by
  pointwise [k0_pay30]
  exact xat_apply _ _ _ _

theorem dat_step_apply (acc : Vec Ideal S16x2560 .f32) (i : S16x2560.Idx) :
    k0_pay31 x0 x1 x5 acc i = acc i + ∑ k, x1 (ix2 k (i 1)) * k0_pay27 x0 x5 (ix2 (i 0) k) := by
  pointwise [k0_pay31, k0_pay26]
  exact congrArg (acc i + ·) (Finset.sum_congr rfl fun k _ => mul_comm _ _)

theorem db_step_apply (acc : Vec Ideal S16x6912 .f32) (i : S16x6912.Idx) :
    k0_pay33 (k0_pay25 x0) (k0_pay28 x1 x4) (k0_pay32 acc) i = acc i + ∑ k, k0_pay28 x1 x4 (ix2 (i 0) k) * x0 (ix2 k (i 1)) := by
  pointwise [k0_pay33, k0_pay25, k0_pay32]

theorem zero_dat (i : S16x2560.Idx) : k0_pay23 (F := Ideal) i = 0 := by
  pointwise [k0_pay23]

theorem zero_db (i : S16x6912.Idx) : k0_pay24 (F := Ideal) i = 0 := by
  pointwise [k0_pay24]

theorem dxTile_apply (w : Vec Ideal S2560x6912 .bf16) (j : ℕ) (hj : j < 10) (k : Fin 256) (d : Fin 256) :
    dxTile x0 x4 x5 w j hj (ix2 k d)
      = ∑ n, x0 (ix2 k n) * w (ix2 ⟨256 * j + d.val, by omega⟩ n) + ∑ r, k0_pay27 x0 x5 (ix2 r k) * x4 (ix2 r ⟨256 * j + d.val, by omega⟩) := by
  pointwise [dxTile, k0_pay34, k0_pay25]

/-- A byte's low half, decoded by two shifts. -/
theorem low_code : ∀ p : BitVec 8, IntOp.shrsi .vector (IntOp.shli .vector (BitVec.setWidth 32 p) 28#32) 28#32 = Formulas.code p 0 := by
  decide +kernel

/-- A byte's high half, decoded by two shifts. -/
theorem high_code : ∀ p : BitVec 8, IntOp.shrsi .vector (IntOp.shli .vector (BitVec.setWidth 32 p) 24#32) 28#32 = Formulas.code p 1 := by
  decide +kernel

theorem tile_apply (x2 : IVec S1280x6912 8) (x3 : FVec Ideal S20x6912 .bf16) (g k : ℕ) (hg : g < 20) (hk : k < 9)
    (r : Fin 128) (q : Fin 768) (j : Fin 1280) (n : Fin 6912) (a : Fin 20) (hj : j.val = 64 * g + r.val / 2)
    (hn : n.val = 768 * k + q.val) (ha : a.val = g) :
    tile (F := Ideal) x2 x3 g k hg hk (ix2 r q)
      = FloatOps.sitofp (F := Ideal) .bf16 (Formulas.code (x2 (ix2 j n)) (r.val % 2)) * x3 (ix2 a n) := by
  obtain ⟨j, _⟩ := j
  obtain ⟨n, _⟩ := n
  obtain ⟨a, _⟩ := a
  dsimp only at hj hn ha
  rw [← tileCol_eq k hk] at hn
  subst hj hn ha
  pointwise [tile, k0_pay3]
  simp only [low_code, high_code]
  rcases Nat.mod_two_eq_zero_or_one r.val with h | h <;> simp [h]

theorem weights_apply (x2 : IVec S1280x6912 8) (x3 : FVec Ideal S20x6912 .bf16) (d : Fin 2560) (n : Fin 6912) :
    weights (F := Ideal) x2 x3 (ix2 d n)
      = FloatOps.sitofp (F := Ideal) .bf16 (Formulas.code (x2 (ix2 ⟨d.val / 2, by omega⟩ n)) (d.val % 2)) * x3 (ix2 ⟨d.val / 128, by omega⟩ n) := by
  have e : d.val % 128 % 2 = d.val % 2 := by omega
  have ei : inTile (ix2 d n) = ix2 ⟨d.val % 128, by omega⟩ ⟨n.val % 768, by omega⟩ := by
    funext a; fin_cases a <;> rfl
  unfold weights
  rw [ei]
  refine (tile_apply x2 x3 (d.val / 128) (n.val / 768) _ _ ⟨d.val % 128, by omega⟩ ⟨n.val % 768, by omega⟩ ⟨d.val / 2, by omega⟩ n
    ⟨d.val / 128, by omega⟩ (show d.val / 2 = 64 * (d.val / 128) + d.val % 128 / 2 by omega)
    (show n.val = 768 * (n.val / 768) + n.val % 768 by omega) rfl).trans ?_
  simp only [e]

theorem dxBlk_apply (w : Vec Ideal S2560x6912 .bf16) (k : Fin 256) (d : Fin 2560) :
    dxBlk x0 x4 x5 w (ix2 k d)
      = ∑ n, x0 (ix2 k n) * w (ix2 d n) + ∑ r, k0_pay27 x0 x5 (ix2 r k) * x4 (ix2 r d) := by
  have e : inDxTile (ix2 k d) = ix2 k ⟨d.val % 256, by omega⟩ := by
    funext a; fin_cases a <;> rfl
  have ed : (⟨256 * (d.val / 256) + d.val % 256, by omega⟩ : Fin 2560) = d := Fin.ext (by show 256 * (d.val / 256) + d.val % 256 = d.val; omega)
  unfold dxBlk
  rw [e]
  refine (dxTile_apply x0 x4 x5 w (d.val / 256) _ k ⟨d.val % 256, by omega⟩).trans ?_
  simp only [ed]

end Cert.KernelIdeal.Hand

end
-- ==== Proof.KernelIdeal.Value.lean ====
/- What the pipeline leaves, at extended reals: every result array of the kernel is its formula on the arguments. -/
module

public import proofs.«01_k».proof.Proof.KernelIdeal.Blocks
public import proofs.«01_k».proof.Proof.KernelIdeal.Payloads

@[expose] public section

set_option maxRecDepth 16384

noncomputable section

namespace Cert.KernelIdeal.Hand

open Idealize.ShloMosaic Idealize.ShloMosaic.TcCoe Idealize.SL.Sem
open Cert.KernelIdeal.Gen

variable (m : (ℓ : Loc nD τ sig) → Buf (Elt Ideal) ℓ) (ρ : Dev nD → PrngReg)

/-! ## One point -/

theorem gt_eq (c : Dev nD) (t : Fin cfg0.N) (r : Fin 16) (k : Fin 256) :
    k0_pay27 (iblk m c 0 t) (iblk m c 5 t) (ix2 r k) = Formulas.gB (argG m c) (argB m c) (rowOf t k) r :=
  (gt_apply _ _ r k).trans (Finset.sum_congr rfl fun n _ => congrArg₂ (· * ·) (blk0 m c t k n) (blk5 m c t r n))

theorem xat_eq (c : Dev nD) (t : Fin cfg0.N) (r : Fin 16) (k : Fin 256) :
    k0_pay28 (iblk m c 1 t) (iblk m c 4 t) (ix2 r k) = Formulas.xA (argX m c) (argA m c) (rowOf t k) r :=
  (xat_apply _ _ r k).trans (Finset.sum_congr rfl fun d _ => congrArg₂ (· * ·) (blk1 m c t k d) (blk4 m c t r d))

theorem wAll_eq (c : Dev nD) (d : Fin 2560) (n : Fin 6912) :
    wAll m c (ix2 d n) = Formulas.weight (argP m c) (argS m c) d n :=
  (weights_apply _ _ d n).trans (congrArg₂ (fun p s => FloatOps.sitofp (F := Ideal) .bf16 (Formulas.code p (d.val % 2)) * s)
    (blk2 m c pt0 _ n) (blk3 m c pt0 _ n))

theorem dxBlk_eq (c : Dev nD) (t : Fin cfg0.N) (k : Fin 256) (d : Fin 2560) :
    dxBlk (iblk m c 0 t) (iblk m c 4 t) (iblk m c 5 t) (wAll m c) (ix2 k d)
      = Formulas.dx (argG m c) (argP m c) (argS m c) (argA m c) (argB m c) (rowOf t k) d :=
  (dxBlk_apply _ _ _ _ k d).trans (congrArg₂ (· + ·)
    (Finset.sum_congr rfl fun n _ => congrArg₂ (· * ·) (blk0 m c t k n) (wAll_eq m c d n))
    (Finset.sum_congr rfl fun r _ => congrArg₂ (· * ·) (gt_eq m c t r k) (blk4 m c t r d)))

/-! ## The accumulators after the last point -/

/-- The grid's last point. -/
def ptLast : Fin cfg0.N := ⟨95, by rw [show cfg0.N = 96 from N_0]; decide⟩

/-- A sum over all rows is a sum over the points of sums over a block's rows. -/
theorem sum_rows {f : Fin 24576 → EReal} : ∑ p : Fin cfg0.N, ∑ k : Fin 256, f (rowOf p k) = ∑ t, f t :=
  Fin.sum_mul_add_congr (fun _ _ _ => rfl)

theorem datAt_last (c : Dev nD) (i : S16x2560.Idx) :
    datAt m c ptLast.val ptLast.isLt i = Formulas.dA (argX m c) (argG m c) (argB m c) (i 1) (i 0) := by
  have hstep : ∀ (t : Fin cfg0.N) (acc : Vec Ideal S16x2560 .f32) (i : S16x2560.Idx),
      k0_pay31 (iblk m c 0 t) (iblk m c 1 t) (iblk m c 5 t) acc i
      = acc i + ∑ k, Formulas.row (argX m c) (rowOf t k) (i 1) * Formulas.gB (argG m c) (argB m c) (rowOf t k) (i 0) := fun t acc i =>
    (dat_step_apply _ _ _ acc i).trans (congrArg (acc i + ·) (Finset.sum_congr rfl fun k _ =>
      congrArg₂ (· * ·) (blk1 m c t k (i 1)) (gt_eq m c t (i 0) k)))
  exact (Pipeline.eq_sum_fin_of_reset_step_apply_last (fun n h => datAt m c n h) 96 (fun _ => 0)
    (fun t j => ∑ k, Formulas.row (argX m c) (rowOf t k) (j 1) * Formulas.gB (argG m c) (argB m c) (rowOf t k) (j 0))
    (fun t h j => by rw [datAt_zero m c t (by have := pt_lt t; omega), hstep, zero_dat])
    (fun t h j => by rw [datAt_pos m c t (by omega), hstep])
    (le_of_eq N_0) ptLast rfl i).trans ((zero_add _).trans
      (sum_rows (f := fun t => Formulas.row (argX m c) t (i 1) * Formulas.gB (argG m c) (argB m c) t (i 0))))

theorem dbAt_last (c : Dev nD) (i : S16x6912.Idx) :
    dbAt m c ptLast.val ptLast.isLt i = Formulas.dB (argX m c) (argG m c) (argA m c) (i 0) (i 1) := by
  have hstep : ∀ (t : Fin cfg0.N) (acc : Vec Ideal S16x6912 .f32) (i : S16x6912.Idx),
      k0_pay33 (k0_pay25 (iblk m c 0 t)) (k0_pay28 (iblk m c 1 t) (iblk m c 4 t)) (k0_pay32 acc) i
      = acc i + ∑ k, Formulas.xA (argX m c) (argA m c) (rowOf t k) (i 0) * Formulas.row (argG m c) (rowOf t k) (i 1) := fun t acc i =>
    (db_step_apply _ _ _ acc i).trans (congrArg (acc i + ·) (Finset.sum_congr rfl fun k _ =>
      congrArg₂ (· * ·) (xat_eq m c t (i 0) k) (blk0 m c t k (i 1))))
  exact (Pipeline.eq_sum_fin_of_reset_step_apply_last (fun n h => dbAt m c n h) 96 (fun _ => 0)
    (fun t j => ∑ k, Formulas.xA (argX m c) (argA m c) (rowOf t k) (j 0) * Formulas.row (argG m c) (rowOf t k) (j 1))
    (fun t h j => by rw [dbAt_zero m c t (by have := pt_lt t; omega), hstep, zero_db])
    (fun t h j => by rw [dbAt_pos m c t (by omega), hstep])
    (le_of_eq N_0) ptLast rfl i).trans ((zero_add _).trans
      (sum_rows (f := fun t => Formulas.xA (argX m c) (argA m c) t (i 0) * Formulas.row (argG m c) t (i 1))))

/-! ## The result arrays -/

theorem arr6 (c : Dev nD) : (dats m 0 c).arrAt 6 cfg0.N
    = fun i : S24576x2560.Idx => Formulas.dx (argG m c) (argP m c) (argS m c) (argA m c) (argB m c) (i 0) (i 1) := by
  refine (dats m 0 c).arrAt_eq_of_covers 6 _ (by decide +kernel) fun t hf y => ?_
  blk_simp
  rw [after0_6]
  have e0 : (win0_6.blk t).view.emb y 0 = rowOf t (y 0) := Fin.ext (by blk_simp [(index_eq t).2.2.2.2.2.2.1, rowOf])
  have e1 : (win0_6.blk t).view.emb y 1 = y 1 := Fin.ext (by blk_simp [(index_eq t).2.2.2.2.2.2.1])
  rw [e0, e1]
  exact (congrArg _ (eq_ix2 y)).trans (dxBlk_eq m c t (y 0) (y 1))

theorem arr7 (c : Dev nD) : (dats m 0 c).arrAt 7 cfg0.N
    = fun i : S16x2560.Idx => Formulas.dA (argX m c) (argG m c) (argB m c) (i 1) (i 0) := by
  refine (dats m 0 c).arrAt_eq_of_after_last 7 ptLast (by decide +kernel) _ fun j => ?_
  blk_simp
  rw [after0_7]
  exact datAt_last m c j

theorem arr8 (c : Dev nD) : (dats m 0 c).arrAt 8 cfg0.N
    = fun i : S16x6912.Idx => Formulas.dB (argX m c) (argG m c) (argA m c) (i 0) (i 1) := by
  refine (dats m 0 c).arrAt_eq_of_after_last 8 ptLast (by decide +kernel) _ fun j => ?_
  blk_simp
  rw [after0_8]
  exact dbAt_last m c j

theorem arr9 (c : Dev nD) : (dats m 0 c).arrAt 9 cfg0.N
    = fun i : S24x16x1024.Idx => Formulas.gB (argG m c) (argB m c) (Formulas.token (i 0) (i 2)) (i 1) := by
  refine (dats m 0 c).arrAt_eq_of_covers 9 _ (by decide +kernel) fun t hf y => ?_
  blk_simp
  rw [after0_9]
  have e0 : Formulas.token ((win0_9.blk t).view.emb y 0) ((win0_9.blk t).view.emb y 2) = rowOf t (y 2) :=
    Fin.ext (by blk_simp [(index_eq t).2.2.2.2.2.2.2.2.2.1, rowOf, Formulas.token]; dsimp only; omega)
  have e1 : (win0_9.blk t).view.emb y 1 = y 1 := Fin.ext (by blk_simp [(index_eq t).2.2.2.2.2.2.2.2.2.1])
  rw [e0, e1]
  exact (congrArg _ (eq_ix3 y)).trans ((gt_out_apply _ _ (y 0) (y 1) (y 2)).trans ((gt_apply _ _ (y 1) (y 2)).symm.trans (gt_eq m c t (y 1) (y 2))))

theorem arr10 (c : Dev nD) : (dats m 0 c).arrAt 10 cfg0.N
    = fun i : S24x16x1024.Idx => Formulas.xA (argX m c) (argA m c) (Formulas.token (i 0) (i 2)) (i 1) := by
  refine (dats m 0 c).arrAt_eq_of_covers 10 _ (by decide +kernel) fun t hf y => ?_
  blk_simp
  rw [after0_10]
  have e0 : Formulas.token ((win0_10.blk t).view.emb y 0) ((win0_10.blk t).view.emb y 2) = rowOf t (y 2) :=
    Fin.ext (by blk_simp [(index_eq t).2.2.2.2.2.2.2.2.2.2, rowOf, Formulas.token]; dsimp only; omega)
  have e1 : (win0_10.blk t).view.emb y 1 = y 1 := Fin.ext (by blk_simp [(index_eq t).2.2.2.2.2.2.2.2.2.2])
  rw [e0, e1]
  exact (congrArg _ (eq_ix3 y)).trans ((xat_out_apply _ _ (y 0) (y 1) (y 2)).trans ((xat_apply _ _ (y 1) (y 2)).symm.trans (xat_eq m c t (y 1) (y 2))))

/-! ## The lines after the region -/

/-- Right after the region, each window's array holds what the pipeline left. -/
theorem region_arr (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr (cfgs 0).spec launch0.win.arr_inj c (V0 m c) (fun w => (dats m 0 c).arrAt w (cfgs 0).N) w

theorem tail_v4 (c : Dev nD) : Pipeline.afterTail₀ cfgs (dats m) 0 (V0 m) [hostOps1] c main_v4
    = fun y : S24x1024x2560.Idx => Formulas.dx (argG m c) (argP m c) (argS m c) (argA m c) (argB m c) (Formulas.token (y 0) (y 1)) (y 2) := by
  unfold Pipeline.afterTail₀
  show StableHlo.after hostOps1 _ _ = _
  after_results_simp
  erw [region_arr m c 6]
  rw [show (dats m 0 c).arrAt 6 (cfgs 0).N = _ from arr6 m c]
  funext y
  pointwise [Formulas.token]

theorem tail_v5 (c : Dev nD) : Pipeline.afterTail₀ cfgs (dats m) 0 (V0 m) [hostOps1] c main_v5
    = fun y : S2560x16.Idx => Formulas.dA (argX m c) (argG m c) (argB m c) (y 0) (y 1) := by
  unfold Pipeline.afterTail₀
  show StableHlo.after hostOps1 _ _ = _
  after_results_simp
  erw [region_arr m c 7]
  rw [show (dats m 0 c).arrAt 7 (cfgs 0).N = _ from arr7 m c]
  funext y
  pointwise

theorem tail_v6 (c : Dev nD) : Pipeline.afterTail₀ cfgs (dats m) 0 (V0 m) [hostOps1] c main_v6
    = fun y : S24x1024x16.Idx => Formulas.gB (argG m c) (argB m c) (Formulas.token (y 0) (y 1)) (y 2) := by
  unfold Pipeline.afterTail₀
  show StableHlo.after hostOps1 _ _ = _
  after_results_simp
  erw [region_arr m c 9]
  rw [show (dats m 0 c).arrAt 9 (cfgs 0).N = _ from arr9 m c]
  funext y
  pointwise

theorem tail_v7 (c : Dev nD) : Pipeline.afterTail₀ cfgs (dats m) 0 (V0 m) [hostOps1] c main_v7
    = fun y : S24x1024x16.Idx => Formulas.xA (argX m c) (argA m c) (Formulas.token (y 0) (y 1)) (y 2) := by
  unfold Pipeline.afterTail₀
  show StableHlo.after hostOps1 _ _ = _
  after_results_simp
  erw [region_arr m c 10]
  rw [show (dats m 0 c).arrAt 10 (cfgs 0).N = _ from arr10 m c]
  funext y
  pointwise

/-- Every run of the kernel ends with the five formulas in its results and its arguments unchanged. -/
theorem run : θ_run defs (onTc (τ := τ) (main (F := Ideal))) ⟨m, fun _ => 0, ρ⟩ fun r => ∀ c : Dev nD,
      r.2.mem ((c.tc : Thread nD τ).loc main_v4) = (fun y : S24x1024x2560.Idx => Formulas.dx (argG m c) (argP m c) (argS m c) (argA m c) (argB m c) (Formulas.token (y 0) (y 1)) (y 2))
      ∧ r.2.mem ((c.tc : Thread nD τ).loc main_v5) = (fun y : S2560x16.Idx => Formulas.dA (argX m c) (argG m c) (argB m c) (y 0) (y 1))
      ∧ r.2.mem ((c.tc : Thread nD τ).loc main_v3_2) = (fun y : S16x6912.Idx => Formulas.dB (argX m c) (argG m c) (argA m c) (y 0) (y 1))
      ∧ r.2.mem ((c.tc : Thread nD τ).loc main_v6) = (fun y : S24x1024x16.Idx => Formulas.gB (argG m c) (argB m c) (Formulas.token (y 0) (y 1)) (y 2))
      ∧ r.2.mem ((c.tc : Thread nD τ).loc main_v7) = (fun y : S24x1024x16.Idx => Formulas.xA (argX m c) (argA m c) (Formulas.token (y 0) (y 1)) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  run_from (run_main m ρ) & (unchanged m ρ)
  exacts [tail_v4 m c, tail_v5 m c, arr8 m c, tail_v6 m c, tail_v7 m c]

end Cert.KernelIdeal.Hand

end
-- ==== Proof.ReferenceIdeal.Value.lean ====
/- The reference at extended reals: each of its results, read at an index, is the formula of that result. -/
module

public import proofs.«01_k».proof.Proof.Gen.ReferenceIdeal.Run
public import proofs.«01_k».proof.Proof.Formulas

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

/-! ## The stages, named -/

variable (X : FVec Ideal S24x1024x2560 .bf16) (G : FVec Ideal S24x1024x6912 .bf16) (P : IVec S1280x6912 8)
  (S : FVec Ideal S20x6912 .bf16) (A : FVec Ideal S2560x16 .bf16) (B : FVec Ideal S16x6912 .bf16)

/-- A number in every element. -/
abbrev splat (n : ℕ) : IVec S1280x6912 32 := broadcastInDim S1280x6912 ![] bcast_S_S1280x6912 (constantI S_ 32 (BitVec.ofNat 32 n))

/-- A four-bit number read as two's complement. -/
def decode (V : IVec S1280x6912 32) : IVec S1280x6912 8 :=
  trunci 8 (select (cmpi .sge (andi V (splat 15)) (splat 8)) (subi (andi V (splat 15)) (splat 16)) (andi V (splat 15))) natLt_8_32

/-- The decoded codes times their groups' scales. -/
def scaled (C : IVec S1280x6912 8) : FVec Ideal S1280x6912 .bf16 :=
  shapeCast S1280x6912 (mulf (shapeCast S20x64x6912 (sitofp .bf16 (extsi 32 C natLt_8_32)) shapeCasts_S1280x6912_S20x64x6912)
    (broadcastInDim S20x64x6912 ![0, 1, 2] bcast_S20x1x6912_S20x64x6912_0_1_2 (broadcastInDim S20x1x6912 ![0, 2] bcast_S20x6912_S20x1x6912_0_2 S)))
    shapeCasts_S20x64x6912_S1280x6912

/-- The output gradient against one half of the weights. -/
def halfDot (W : FVec Ideal S1280x6912 .bf16) : FVec Ideal S24576x1280 .f32 :=
  Host.dotGeneral dot_S24576x6912_S1280x6912_S24576x1280_1_1_0_0_n_n none (shapeCast S24576x6912 G shapeCasts_S24x1024x6912_S24576x6912) W

/-- The two halves' columns in turn. -/
def interleaved (U V : FVec Ideal S24576x1280 .f32) : FVec Ideal S24576x2560 .f32 :=
  shapeCast S24576x2560 (concatenate S24576x1280x2 2 [⟨S24576x1280x1, broadcastInDim S24576x1280x1 ![0, 1] bcast_S24576x1280_S24576x1280x1_0_1 U⟩,
    ⟨S24576x1280x1, broadcastInDim S24576x1280x1 ![0, 1] bcast_S24576x1280_S24576x1280x1_0_1 V⟩] concatenates_S24576x1280x1_S24576x1280x1_S24576x1280x2_d2)
    shapeCasts_S24576x1280x2_S24576x2560

def gt : FVec Ideal S24576x16 .bf16 :=
  truncf .bf16 (Host.dotGeneral dot_S24576x6912_S16x6912_S24576x16_1_1_0_0_n_n none (shapeCast S24576x6912 G shapeCasts_S24x1024x6912_S24576x6912) B) bitsLt_bf16_f32

def xat : FVec Ideal S24576x16 .bf16 :=
  truncf .bf16 (Host.dotGeneral dot_S24576x2560_S2560x16_S24576x16_1_0_0_1_n_n none (shapeCast S24576x2560 X shapeCasts_S24x1024x2560_S24576x2560) A) bitsLt_bf16_f32

abbrev unit : FVec Ideal S_ .f32 := Host.divf (constant (F := Ideal) S_ .f32 0x41800000#32) (constant S_ .f32 0x41800000#32)

def dx : FVec Ideal S24x1024x2560 .bf16 :=
  shapeCast S24x1024x2560 (truncf .bf16 (addf (interleaved (halfDot G (scaled S (decode (extui 32 P natLt_8_32))))
      (halfDot G (scaled S (decode (Host.shrsi (extui 32 P natLt_8_32) (splat 4))))))
    (mulf (broadcastInDim S24576x2560 ![] bcast_S_S24576x2560 unit)
      (Host.dotGeneral dot_S24576x16_S2560x16_S24576x2560_1_1_0_0_n_n none (gt G B) A))) bitsLt_bf16_f32) shapeCasts_S24576x2560_S24x1024x2560

def g : FVec Ideal S24x1024x16 .bf16 := shapeCast S24x1024x16 (gt G B) shapeCasts_S24576x16_S24x1024x16

def xa : FVec Ideal S24x1024x16 .bf16 := shapeCast S24x1024x16 (xat X A) shapeCasts_S24576x16_S24x1024x16

def dA : FVec Ideal S2560x16 .f32 :=
  mulf (broadcastInDim S2560x16 ![] bcast_S_S2560x16 unit)
    (Host.dotGeneral dot_S24576x2560_S24576x16_S2560x16_0_0_1_1_n_n none (shapeCast S24576x2560 X shapeCasts_S24x1024x2560_S24576x2560) (gt G B))

def dB : FVec Ideal S16x6912 .f32 :=
  mulf (broadcastInDim S16x6912 ![] bcast_S_S16x6912 unit)
    (Host.dotGeneral dot_S24576x16_S24576x6912_S16x6912_0_0_1_1_n_n none (xat X A) (shapeCast S24576x6912 G shapeCasts_S24x1024x6912_S24576x6912))

/-! ## The stages at an index -/

/-- A byte's low half, decoded. -/
theorem low_code : ∀ p : BitVec 8, BitVec.signExtend 32 (BitVec.setWidth 8
    (Scalar.select (IntOp.cmpi CmpIPredicate.sge (IntOp.andi (BitVec.setWidth 32 p) 15#32) 8#32)
      (IntOp.subi (IntOp.andi (BitVec.setWidth 32 p) 15#32) 16#32) (IntOp.andi (BitVec.setWidth 32 p) 15#32)))
    = Formulas.code p 0 := by decide +kernel

/-- A byte's high half, decoded. -/
theorem high_code : ∀ p : BitVec 8, BitVec.signExtend 32 (BitVec.setWidth 8
    (Scalar.select (IntOp.cmpi CmpIPredicate.sge (IntOp.andi (IntOp.shrsi .host (BitVec.setWidth 32 p) 4#32) 15#32) 8#32)
      (IntOp.subi (IntOp.andi (IntOp.shrsi .host (BitVec.setWidth 32 p) 4#32) 15#32) 16#32) (IntOp.andi (IntOp.shrsi .host (BitVec.setWidth 32 p) 4#32) 15#32)))
    = Formulas.code p 1 := by decide +kernel

theorem low_apply (j : Fin 1280) (n : Fin 6912) : scaled S (decode (extui 32 P natLt_8_32)) (ix2 j n)
    = FloatOps.sitofp (F := Ideal) .bf16 (Formulas.code (P (ix2 j n)) 0) * S (ix2 ⟨j.val / 64, by omega⟩ n) := by
  pointwise [scaled, decode]
  rw [low_code]

theorem high_apply (j : Fin 1280) (n : Fin 6912) : scaled S (decode (Host.shrsi (extui 32 P natLt_8_32) (splat 4))) (ix2 j n)
    = FloatOps.sitofp (F := Ideal) .bf16 (Formulas.code (P (ix2 j n)) 1) * S (ix2 ⟨j.val / 64, by omega⟩ n) := by
  pointwise [scaled, decode]
  rw [high_code]

theorem halfDot_apply (W : FVec Ideal S1280x6912 .bf16) (t : Fin 24576) (j : Fin 1280) :
    halfDot G W (ix2 t j) = ∑ n, Formulas.row G t n * W (ix2 j n) := by
  pointwise [halfDot, Formulas.row]

theorem interleaved_apply (U V : FVec Ideal S24576x1280 .f32) (t : Fin 24576) (d : Fin 2560) :
    interleaved U V (ix2 t d) = if d.val % 2 = 0 then U (ix2 t ⟨d.val / 2, by omega⟩) else V (ix2 t ⟨d.val / 2, by omega⟩) := by
  pointwise [interleaved]
  by_cases h : d.val % 2 = 0 <;> simp [h]

theorem gt_apply (t : Fin 24576) (r : Fin 16) : gt G B (ix2 t r) = Formulas.gB G B t r := by
  pointwise [gt, Formulas.gB, Formulas.row]

theorem xat_apply (t : Fin 24576) (r : Fin 16) : xat X A (ix2 t r) = Formulas.xA X A t r := by
  pointwise [xat, Formulas.xA, Formulas.row]

theorem g_apply (y : S24x1024x16.Idx) : g G B y = Formulas.gB G B (Formulas.token (y 0) (y 1)) (y 2) := by
  pointwise [g, gt_apply, Formulas.token]

theorem xa_apply (y : S24x1024x16.Idx) : xa X A y = Formulas.xA X A (Formulas.token (y 0) (y 1)) (y 2) := by
  pointwise [xa, xat_apply, Formulas.token]

theorem dA_apply (y : S2560x16.Idx) : dA X G B y = Formulas.dA X G B (y 0) (y 1) := by
  pointwise [dA, gt_apply, Formulas.scaling, Formulas.dA, Formulas.row]

theorem dB_apply (y : S16x6912.Idx) : dB X G A y = Formulas.dB X G A (y 0) (y 1) := by
  pointwise [dB, xat_apply, Formulas.scaling, Formulas.dB, Formulas.row]

theorem dx_apply (y : S24x1024x2560.Idx) : dx G P S A B y = Formulas.dx G P S A B (Formulas.token (y 0) (y 1)) (y 2) := by
  pointwise [dx, interleaved_apply, halfDot_apply, low_apply, high_apply, gt_apply, Formulas.scaling, Formulas.dx, Formulas.weight, Formulas.token]
  have hs : (y 2).val / 2 / 64 = (y 2).val / 128 := by omega
  simp only [hs]
  rcases Nat.mod_two_eq_zero_or_one (y 2).val with h | h <;> simp [h]

variable (m : (ℓ : Loc nD τ sig) → Buf (Elt Ideal) ℓ) (ρ : Dev nD → PrngReg)

set_option maxHeartbeats 4000000 in
/-- Every run of the reference ends with the five results at their formulas and the arguments unchanged. -/
theorem run : θ_run defs (onTc (τ := τ) (main (F := Ideal))) ⟨m, fun _ => 0, ρ⟩ fun r => ∀ c : Dev nD,
      r.2.mem ((c.tc : Thread nD τ).loc main_v51) = (fun y : S24x1024x2560.Idx => Formulas.dx (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (Formulas.token (y 0) (y 1)) (y 2))
      ∧ r.2.mem ((c.tc : Thread nD τ).loc main_v54) = (fun y : S2560x16.Idx => Formulas.dA (m ((c.tc : Thread nD τ).loc main_arg0)) (m ((c.tc : Thread nD τ).loc main_arg1)) (m ((c.tc : Thread nD τ).loc main_arg5)) (y 0) (y 1))
      ∧ r.2.mem ((c.tc : Thread nD τ).loc main_v57) = (fun y : S16x6912.Idx => Formulas.dB (m ((c.tc : Thread nD τ).loc main_arg0)) (m ((c.tc : Thread nD τ).loc main_arg1)) (m ((c.tc : Thread nD τ).loc main_arg4)) (y 0) (y 1))
      ∧ r.2.mem ((c.tc : Thread nD τ).loc main_v58) = (fun y : S24x1024x16.Idx => Formulas.gB (m ((c.tc : Thread nD τ).loc main_arg1)) (m ((c.tc : Thread nD τ).loc main_arg5)) (Formulas.token (y 0) (y 1)) (y 2))
      ∧ r.2.mem ((c.tc : Thread nD τ).loc main_v59) = (fun y : S24x1024x16.Idx => Formulas.xA (m ((c.tc : Thread nD τ).loc main_arg0)) (m ((c.tc : Thread nD τ).loc main_arg4)) (Formulas.token (y 0) (y 1)) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Cert.ReferenceIdeal.Value.run (F := Ideal) m ρ)
  obtain ⟨h0, h1, h2, h3, h4, h5⟩ := h c
  refine ⟨h0.trans (funext (dx_apply _ _ _ _ _)), h1.trans (funext (dA_apply _ _ _)), h2.trans (funext (dB_apply _ _ _)),
    h3.trans (funext (g_apply _ _)), h4.trans (funext (xa_apply _ _)), h5⟩

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdeal.Value
public import proofs.«01_k».proof.Proof.ReferenceIdeal.Value
public import Idealize.ShloMosaic.Adequacy
public import Idealize.ShloMosaic.Init

@[expose] public section

noncomputable section

set_option maxRecDepth 16384

namespace Cert.Proof

open Idealize.ShloMosaic Idealize.SL.Sem Cert.Kernel

/-- The program and its idealization are one text in two namespaces, and the run of the second is proved at any float
    values: at machine floats it is the run of the first. -/
theorem kernel_frame : letI := Cert.Kernel.Gen.facts; Cert.quiescent_Kernel := fun m g _ => by
  refine Eq.mp ?_ (Cert.KernelIdeal.Hand.frame (F := Bits) m g)
  sl_kernel_rfl

/-- Both programs, on equal arguments, end with the same five arrays: each result is its formula in the first program's
    arguments. -/
theorem algebraic : letI := Cert.KernelIdeal.Gen.facts; letI := Cert.ReferenceIdeal.Gen.facts; Cert.algebraic_KernelIdeal_ReferenceIdeal := by
  intro m g m' g' _ hagree
  refine ⟨fun c => _, fun c => _, fun c => _, fun c => _, fun c => _, Cert.KernelIdeal.Hand.run m g,
    (θ_run Cert.ReferenceIdeal.defs _ _).mono (fun r h c => ?_) (Cert.ReferenceIdeal.Hand.run m' g')⟩
  obtain ⟨a0, a1, a2, a3, a4, a5⟩ := hagree c
  have hc := h c
  rw [a0, a1, a2, a3, a4, a5] at hc ⊢
  exact hc

theorem claim : Cert.Claim := ⟨Cert.Kernel.Gen.facts, Cert.KernelIdeal.Gen.facts, Cert.ReferenceIdeal.Gen.facts,
  kernel_frame, fun m g _ => Cert.KernelIdeal.Hand.frame m g,
  fun m g _ => (θ_run Cert.ReferenceIdeal.defs _ _).mono (fun r h => ⟨fun c => (h c).2.2.2.2.2, sem_eq_zero_of_no_sems (by decide) r.2⟩)
    (Cert.ReferenceIdeal.Value.run m g), trivial, algebraic⟩

end Cert.Proof

end
